-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordered_finite [hPre_ordered_finite : Cert.Pre_ordered_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ordered_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_ordered_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_ordered_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_ordered_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_ordered_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordered_finite [hPre_ordered_finite : Cert.Pre_ordered_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordered_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_ordered_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_ordered_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_ordered_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_ordered_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ordered_finite [hKernelIdeal : Cert.KernelIdeal.Facts] [hPre_ordered_finite : Cert.Pre_ordered_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordered_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ordered_finite [hReferenceIdeal : Cert.ReferenceIdeal.Facts] [hPre_ordered_finite : Cert.Pre_ordered_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordered_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_ordered_finite [hKernelIdeal : Cert.KernelIdeal.Facts] [hReferenceIdeal : Cert.ReferenceIdeal.Facts] [hPre_ordered_finite : Cert.Pre_ordered_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordered_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ordered_finite : Cert.Pre_ordered_finite.Facts),
    quiescent_Kernel (hKernel := hKernel)
    ∧ quiescent_KernelIdeal (hKernelIdeal := hKernelIdeal)
    ∧ quiescent_KernelIdeal_pre_ordered_finite (hKernelIdeal := hKernelIdeal) (hPre_ordered_finite := hPre_ordered_finite)
    ∧ quiescent_ReferenceIdeal (hReferenceIdeal := hReferenceIdeal)
    ∧ quiescent_ReferenceIdeal_pre_ordered_finite (hReferenceIdeal := hReferenceIdeal) (hPre_ordered_finite := hPre_ordered_finite)
    ∧ preserves_Kernel_KernelIdeal
    ∧ algebraic_KernelIdeal_ReferenceIdeal_pre_ordered_finite (hKernelIdeal := hKernelIdeal) (hReferenceIdeal := hReferenceIdeal) (hPre_ordered_finite := hPre_ordered_finite)
-- ==== Pre_ordered_finite.lean ====
abbrev S2048x512 : Shape := ⟨2, ![2048, 512]⟩
abbrev S2048 : Shape := ⟨1, ![2048]⟩
abbrev S512x512 : Shape := ⟨2, ![512, 512]⟩
abbrev S1x1025 : Shape := ⟨2, ![1, 1025]⟩
abbrev S_ : Shape := ⟨0, ![]⟩
abbrev S2047 : Shape := ⟨1, ![2047]⟩

class Facts : Prop where
  bcast_S_S2048x512 : S_.BroadcastsInDim S2048x512 (![] : Fin 0 → Fin S2048x512.rank)
  bcast_S_S512x512 : S_.BroadcastsInDim S512x512 (![] : Fin 0 → Fin S512x512.rank)
  bcast_S_S1x1025 : S_.BroadcastsInDim S1x1025 (![] : Fin 0 → Fin S1x1025.rank)
  bcast_S_S2048 : S_.BroadcastsInDim S2048 (![] : Fin 0 → Fin S2048.rank)
  slices_S2048_S2047_0 : S2048.Slices ![0] S2047
  slices_S2048_S2047_1 : S2048.Slices ![1] S2047

variable [Facts]

def fn {F : FTy → Type} [FloatOps F] (main_arg0 : FVec F S2048x512 .f32) (main_arg1 : IVec S2048 32) (main_arg2 : FVec F S512x512 .f32) (main_arg3 : FVec F S1x1025 .f32) : IVec S2048x512 1 × IVec S512x512 1 × IVec S1x1025 1 × IVec S2048 1 × IVec S2047 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S512x512 .f32 := Host.absf main_arg2
  let main_cst_0 : FVec F S_ .f32 := constant S_ .f32 0x7F800000#32
  let main_v4 : FVec F S512x512 .f32 := broadcastInDim S512x512 ![] bcast_S_S512x512 main_cst_0
  let main_v5 : IVec S512x512 1 := cmpf .olt main_v3 main_v4
  let main_v6 : FVec F S1x1025 .f32 := Host.absf main_arg3
  let main_cst_1 : FVec F S_ .f32 := constant S_ .f32 0x7F800000#32
  let main_v7 : FVec F S1x1025 .f32 := broadcastInDim S1x1025 ![] bcast_S_S1x1025 main_cst_1
  let main_v8 : IVec S1x1025 1 := cmpf .olt main_v6 main_v7
  let main_c : IVec S_ 32 := constantI S_ 32 0#32
  let main_v9 : IVec S2048 32 := broadcastInDim S2048 ![] bcast_S_S2048 main_c
  let main_v10 : IVec S2048 1 := cmpi .sge main_arg1 main_v9
  let main_c_2 : IVec S_ 32 := constantI S_ 32 8#32
  let main_v11 : IVec S2048 32 := broadcastInDim S2048 ![] bcast_S_S2048 main_c_2
  let main_v12 : IVec S2048 1 := cmpi .slt main_arg1 main_v11
  let main_v13 : IVec S2048 1 := andi main_v10 main_v12
  let main_v14 : IVec S2047 32 := (extractStridedSlice S2047 ![0] · slices_S2048_S2047_0) main_arg1
  let main_v15 : IVec S2047 32 := (extractStridedSlice S2047 ![1] · slices_S2048_S2047_1) main_arg1
  let main_v16 : IVec S2047 1 := cmpi .sle main_v14 main_v15
  (main_v2, main_v5, main_v8, main_v13, main_v16)
-- ==== Kernel.lean ====
abbrev S2048x512 : Shape := ⟨2, ![2048, 512]⟩
abbrev S2048 : Shape := ⟨1, ![2048]⟩
abbrev S512x512 : Shape := ⟨2, ![512, 512]⟩
abbrev S1x1025 : Shape := ⟨2, ![1, 1025]⟩
abbrev S1x2048 : Shape := ⟨2, ![1, 2048]⟩
abbrev S1x512 : Shape := ⟨2, ![1, 512]⟩
abbrev S512 : Shape := ⟨1, ![512]⟩
abbrev S512x1 : Shape := ⟨2, ![512, 1]⟩
abbrev S256x512 : Shape := ⟨2, ![256, 512]⟩
abbrev S2048x1 : Shape := ⟨2, ![2048, 1]⟩
abbrev S256x1 : Shape := ⟨2, ![256, 1]⟩
abbrev S1x1 : Shape := ⟨2, ![1, 1]⟩
abbrev S1x2048x1 : Shape := ⟨3, ![1, 2048, 1]⟩
abbrev S1 : Shape := ⟨1, ![1]⟩
abbrev S1x1x1 : Shape := ⟨3, ![1, 1, 1]⟩
abbrev S1x1x2048 : Shape := ⟨3, ![1, 1, 2048]⟩
abbrev S1x256 : Shape := ⟨2, ![1, 256]⟩
abbrev S256x256 : Shape := ⟨2, ![256, 256]⟩
abbrev S256 : Shape := ⟨1, ![256]⟩

abbrev nBuf : Space → Nat
  | .hbm => 9
  | .vmem => 14
  | .smem => 3
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S512x512, .f32⟩
  | .hbm, ⟨3, _⟩ => ⟨S1x1025, .f32⟩
  | .hbm, ⟨4, _⟩ => ⟨S1x2048, .i32⟩
  | .hbm, ⟨5, _⟩ => ⟨S1x512, .f32⟩
  | .hbm, ⟨6, _⟩ => ⟨S512, .f32⟩
  | .hbm, ⟨7, _⟩ => ⟨S512x1, .f32⟩
  | .hbm, ⟨8, _⟩ => ⟨S2048x512, .f32⟩
  | .local _ .vmem, ⟨0, _⟩ => ⟨S2048x512, .f32⟩
  | .local _ .vmem, ⟨1, _⟩ => ⟨S512x512, .f32⟩
  | .local _ .vmem, ⟨2, _⟩ => ⟨S1x1025, .f32⟩
  | .local _ .vmem, ⟨3, _⟩ => ⟨S512x1, .f32⟩
  | .local _ .vmem, ⟨4, _⟩ => ⟨S1x2048, .i32⟩
  | .local _ .vmem, ⟨5, _⟩ => ⟨S256x512, .f32⟩
  | .local _ .vmem, ⟨6, _⟩ => ⟨S256x512, .f32⟩
  | .local _ .vmem, ⟨7, _⟩ => ⟨S2048x512, .bf16⟩
  | .local _ .vmem, ⟨8, _⟩ => ⟨S2048x1, .f32⟩
  | .local _ .vmem, ⟨9, _⟩ => ⟨S1x2048, .f32⟩
  | .local _ .vmem, ⟨10, _⟩ => ⟨S2048x1, .i32⟩
  | .local _ .vmem, ⟨11, _⟩ => ⟨S2048x1, .i32⟩
  | .local _ .vmem, ⟨12, _⟩ => ⟨S256x512, .f32⟩
  | .local _ .vmem, ⟨13, _⟩ => ⟨S256x1, .f32⟩
  | .local _ .smem, ⟨0, _⟩ => ⟨S2048, .i32⟩
  | .local _ .smem, ⟨1, _⟩ => ⟨S1x1025, .f32⟩
  | .local _ .smem, ⟨2, _⟩ => ⟨S1x1, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg7_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_stg0_0 : Ref sig .tc := ⟨.smem, 0, rfl⟩
abbrev cc0_stg1_0 : Ref sig .tc := ⟨.smem, 1, rfl⟩
abbrev cc0_scratch7 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c256_i32 : BitVec 32 := 256#32
  let v4 : BitVec 32 := Scalar.muli arg0 c256_i32
  let v5 : Index := Scalar.indexCast v4
  let c0_2 : Index := 0#32
  ![v5.toNat, 0]
def k0_off2 (i : grid0.Coords) : Fin 1 → Nat :=
  let arg0 : BitVec 32 := BitVec.ofNat 32 (i 0).val
  let c256_i32_5 : BitVec 32 := 256#32
  let v10 : BitVec 32 := Scalar.muli arg0 c256_i32_5
  let v11 : Index := Scalar.indexCast v10
  ![v11.toNat]
def k0_off3 (i : grid0.Coords) : Fin 1 → Nat :=
  let arg0 : BitVec 32 := BitVec.ofNat 32 (i 0).val
  let c256_i32_6 : BitVec 32 := 256#32
  let v13 : BitVec 32 := Scalar.muli arg0 c256_i32_6
  let c256_i32_7 : BitVec 32 := 256#32
  let v14 : BitVec 32 := Scalar.addi v13 c256_i32_7
  let c1_i32 : BitVec 32 := 1#32
  let v15 : BitVec 32 := Scalar.subi v14 c1_i32
  let v16 : Index := Scalar.indexCast v15
  ![v16.toNat]
def k0_off4 (i : grid0.Coords) : Fin 2 → Nat :=
  let arg0 : BitVec 32 := BitVec.ofNat 32 (i 0).val
  let c256_i32_22 : BitVec 32 := 256#32
  let v82 : BitVec 32 := Scalar.muli arg0 c256_i32_22
  let v83 : Index := Scalar.indexCast v82
  let c0_23 : Index := 0#32
  ![v83.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1025 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1025 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2048x512 : Shape := ⟨2, ![2048, 512]⟩
abbrev S2048 : Shape := ⟨1, ![2048]⟩
abbrev S512x512 : Shape := ⟨2, ![512, 512]⟩
abbrev S1x1025 : Shape := ⟨2, ![1, 1025]⟩
abbrev S1025 : Shape := ⟨1, ![1025]⟩
abbrev S512 : Shape := ⟨1, ![512]⟩
abbrev S1 : Shape := ⟨1, ![1]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S8 : Shape := ⟨1, ![8]⟩

abbrev nBuf : Space → Nat
  | .hbm => 91
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S512x512, .f32⟩
  | .hbm, ⟨3, _⟩ => ⟨S1x1025, .f32⟩
  | .hbm, ⟨4, _⟩ => ⟨S512x512, .f32⟩
  | .hbm, ⟨5, _⟩ => ⟨S2048x512, .f32⟩
  | .hbm, ⟨6, _⟩ => ⟨S1025, .f32⟩
  | .hbm, ⟨7, _⟩ => ⟨S512, .f32⟩
  | .hbm, ⟨8, _⟩ => ⟨S512, .f32⟩
  | .hbm, ⟨9, _⟩ => ⟨S1, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S2048x1, .f32⟩
  | .hbm, ⟨14, _⟩ => ⟨S1x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S_, .f32⟩
  | .hbm, ⟨22, _⟩ => ⟨S2048x2048, .f32⟩
  | .hbm, ⟨23, _⟩ => ⟨S2048x2048, .i1⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x1, .i32⟩
  | .hbm, ⟨29, _⟩ => ⟨S1x2048, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S_, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S_, .f32⟩
  | .hbm, ⟨40, _⟩ => ⟨S2048, .f32⟩
  | .hbm, ⟨41, _⟩ => ⟨S2048, .f32⟩
  | .hbm, ⟨42, _⟩ => ⟨S2048x1, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S_, .f32⟩
  | .hbm, ⟨53, _⟩ => ⟨S2048x2048, .f32⟩
  | .hbm, ⟨54, _⟩ => ⟨S2048x2048, .f32⟩
  | .hbm, ⟨55, _⟩ => ⟨S2048x512, .f32⟩
  | .hbm, ⟨56, _⟩ => ⟨S_, .i32⟩
  | .hbm, ⟨57, _⟩ => ⟨S8, .i32⟩
  | .hbm, ⟨58, _⟩ => ⟨S_, .i32⟩
  | .hbm, ⟨59, _⟩ => ⟨S_, .i32⟩
  | .hbm, ⟨60, _⟩ => ⟨S2048, .i32⟩
  | .hbm, ⟨61, _⟩ => ⟨S2048, .i32⟩
  | .hbm, ⟨62, _⟩ => ⟨S_, .i32⟩
  | .hbm, ⟨63, _⟩ => ⟨S2048, .i32⟩
  | .hbm, ⟨64, _⟩ => ⟨S2048, .i1⟩
  | .hbm, ⟨65, _⟩ => ⟨S_, .i32⟩
  | .hbm, ⟨66, _⟩ => ⟨S2048, .i32⟩
  | .hbm, ⟨67, _⟩ => ⟨S2048, .i32⟩
  | .hbm, ⟨68, _⟩ => ⟨S2048, .i32⟩
  | .hbm, ⟨69, _⟩ => ⟨S2048x1, .i32⟩
  | .hbm, ⟨70, _⟩ => ⟨S_, .i32⟩
  | .hbm, ⟨71, _⟩ => ⟨S2048, .i32⟩
  | .hbm, ⟨72, _⟩ => ⟨S8, .i32⟩
  | .hbm, ⟨73, _⟩ => ⟨S_, .i32⟩
  | .hbm, ⟨74, _⟩ => ⟨S2048, .i32⟩
  | .hbm, ⟨75, _⟩ => ⟨S2048, .i1⟩
  | .hbm, ⟨76, _⟩ => ⟨S_, .i32⟩
  | .hbm, ⟨77, _⟩ => ⟨S2048, .i32⟩
  | .hbm, ⟨78, _⟩ => ⟨S2048, .i32⟩
  | .hbm, ⟨79, _⟩ => ⟨S2048, .i32⟩
  | .hbm, ⟨80, _⟩ => ⟨S2048x1, .i32⟩
  | .hbm, ⟨81, _⟩ => ⟨S2048, .i32⟩
  | .hbm, ⟨82, _⟩ => ⟨S_, .i32⟩
  | .hbm, ⟨83, _⟩ => ⟨S2048, .i32⟩
  | .hbm, ⟨84, _⟩ => ⟨S2048, .i1⟩
  | .hbm, ⟨85, _⟩ => ⟨S2048x1, .i1⟩
  | .hbm, ⟨86, _⟩ => ⟨S_, .f32⟩
  | .hbm, ⟨87, _⟩ => ⟨S_, .f32⟩
  | .hbm, ⟨88, _⟩ => ⟨S2048x512, .i1⟩
  | .hbm, ⟨89, _⟩ => ⟨S2048x512, .f32⟩
  | .hbm, ⟨90, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_call2_v0 : Ref sig .tc := ⟨.hbm, 52, rfl⟩
abbrev main_call2_v1 : Ref sig .tc := ⟨.hbm, 53, rfl⟩
abbrev main_v34 : Ref sig .tc := ⟨.hbm, 54, rfl⟩
abbrev main_v35 : Ref sig .tc := ⟨.hbm, 55, rfl⟩
abbrev main_c : Ref sig .tc := ⟨.hbm, 56, rfl⟩
abbrev main_v36 : Ref sig .tc := ⟨.hbm, 57, rfl⟩
abbrev main_c_5 : Ref sig .tc := ⟨.hbm, 58, rfl⟩
abbrev main_call3_v0 : Ref sig .tc := ⟨.hbm, 59, rfl⟩
abbrev main_call3_v1 : Ref sig .tc := ⟨.hbm, 60, rfl⟩
abbrev main_v37 : Ref sig .tc := ⟨.hbm, 61, rfl⟩
abbrev main_c_6 : Ref sig .tc := ⟨.hbm, 62, rfl⟩
abbrev main_v38 : Ref sig .tc := ⟨.hbm, 63, rfl⟩
abbrev main_v39 : Ref sig .tc := ⟨.hbm, 64, rfl⟩
abbrev main_c_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_8 : Ref sig .tc := ⟨.hbm, 70, rfl⟩
abbrev main_v44 : Ref sig .tc := ⟨.hbm, 71, rfl⟩
abbrev main_v45 : Ref sig .tc := ⟨.hbm, 72, rfl⟩
abbrev main_c_9 : Ref sig .tc := ⟨.hbm, 73, rfl⟩
abbrev main_v46 : Ref sig .tc := ⟨.hbm, 74, rfl⟩
abbrev main_v47 : Ref sig .tc := ⟨.hbm, 75, rfl⟩
abbrev main_c_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_12 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_v56 : Ref sig .tc := ⟨.hbm, 90, rfl⟩

abbrev nD : Nat := 1
abbrev τ : Topo := Topo.v7x

variable {F : FTy → Type} [FloatOps F]
-- ==== Proof.Body.lean ====
/-
  The kernel body of `KernelIdeal`, piece by piece: one block of columns (`blockStep`), the prologue, the rest.
-/
module

public import proofs.«01_k».proof.Proof.Gen.KernelIdeal.Frame
public import proofs.«01_k».proof.Proof.Gen.KernelIdeal.Skeleton
public import Idealize.ShloMosaic.Lib.Claim
public import Idealize.ShloMosaic.Lib.VecWindow
public import Idealize.ShloMosaic.Lib.Pipeline.Value

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off00 : (![0, 0] : Fin 2 → ℕ) = fun _ => 0 := by funext a; fin_cases a <;> rfl

/-! ## One operation -/

/-- A load through a whole memref: the value read is the rectangle of the contents. -/
theorem load_wp {α : Type} {cs : CoreSpace} {s : Shape} {e : EltTy} (c : Dev nD) (g : Memref sig .tc cs s e) (hg : g.IsWhole) (x : s.Idx → Elt F e)
    (r : Rect s) (hl : g.view.LoadsAt r.toLoadRect)
    (k : (r.shape.Idx → Elt F e) → Prog (TpuEff nD τ sig (Elt F) Λ₀ .tc) α) (E : Set ℕ) (K : α → sProp 𝕄) :
    iprop(owns (c : Thread nD τ) g fullShare x ∗ (owns (c : Thread nD τ) g fullShare x
        -∗ wp frame (wpE (defs₀ (F := F)) Variants.none c none) E (k (View.ld x r)) K))
      ⊢ wp frame (wpE (defs₀ (F := F)) Variants.none c none) E (Prog.lift (.load g r.toLoadRect hl) >>= k) K := by
  show _ ⊢ wp frame (wpE (defs₀ (F := F)) Variants.none c none) E (.op (.load g r.toLoadRect hl) k) K
  iintro ⟨H, Hk⟩
  unfold owns
  icases H with ⟨%f, %h, H⟩
  obtain rfl := hg.eq_unread h
  sl_step
  simp only [View.readAt_eq_ld, Memref.IsWhole.read_unread]
  iapply Hk
  iexists _; isplitr; · ipureintro; exact hg.read_unread _
  iexact H

/-- A load of a whole memref reads its contents. -/
theorem load_full_wp {α : Type} {cs : CoreSpace} {s : Shape} {e : EltTy} (c : Dev nD) (g : Memref sig .tc cs s e) (hg : g.IsWhole) (x : s.Idx → Elt F e)
    {off : Fin s.rank → ℕ} (inb : ∀ a, off a + s.size a ≤ s.size a) (hl : g.view.LoadsAt (Rect.unit off s.size inb).toLoadRect)
    (k : (s.Idx → Elt F e) → Prog (TpuEff nD τ sig (Elt F) Λ₀ .tc) α) (E : Set ℕ) (K : α → sProp 𝕄) :
    iprop(owns (c : Thread nD τ) g fullShare x ∗ (owns (c : Thread nD τ) g fullShare x
        -∗ wp frame (wpE (defs₀ (F := F)) Variants.none c none) E (k x) K))
      ⊢ wp frame (wpE (defs₀ (F := F)) Variants.none c none) E (Prog.lift (.load g (Rect.unit off s.size inb).toLoadRect hl) >>= k) K := by
  have e := load_wp c g hg x (Rect.unit off s.size inb) hl k E K
  rw [View.ld_unit_zero (funext fun a => by have := inb a; omega) inb x] at e
  exact e

/-- A read of one word of scalar memory. -/
theorem word_wp {α : Type} {s : Shape} {e : EltTy} (c : Dev nD) (g : Memref sig .tc .smem s e) (hg : g.IsWhole) (x : s.Idx → Elt F e)
    (r : Rect s) (h1 : r.shape.numel = 1) (hp : e.packing = 1)
    (k : Elt F e → Prog (TpuEff nD τ sig (Elt F) Λ₀ .tc) α) (E : Set ℕ) (K : α → sProp 𝕄) :
    iprop(owns (c : Thread nD τ) g fullShare x ∗ (owns (c : Thread nD τ) g fullShare x
        -∗ wp frame (wpE (defs₀ (F := F)) Variants.none c none) E (k (View.ld x r (Shape.Idx.first (h1.symm ▸ Nat.one_pos)))) K))
      ⊢ wp frame (wpE (defs₀ (F := F)) Variants.none c none) E (smemLoad g r h1 hp >>= k) K :=
  load_wp c g hg x r _ (fun f => k (f (Shape.Idx.first (h1.symm ▸ Nat.one_pos)))) E K

/-- A store of a whole memref leaves what it stores, whatever was there. -/
theorem store_wp {α : Type} {cs : CoreSpace} {s : Shape} {e : EltTy} (c : Dev nD) (g : Memref sig .tc cs s e) (hg : g.IsWhole) (x : s.Idx → Elt F e)
    {off : Fin s.rank → ℕ} (inb : ∀ a, off a + s.size a ≤ s.size a) (w : s.Idx → Elt F e)
    (hx : (g.access (Rect.unit off s.size inb)).Stores Finset.univ) (hm)
    (k : PUnit.{1} → Prog (TpuEff nD τ sig (Elt F) Λ₀ .tc) α) (E : Set ℕ) (K : α → sProp 𝕄) :
    iprop(owns (c : Thread nD τ) g fullShare x ∗ (owns (c : Thread nD τ) g fullShare w
        -∗ wp frame (wpE (defs₀ (F := F)) Variants.none c none) E (k ⟨⟩) K))
      ⊢ wp frame (wpE (defs₀ (F := F)) Variants.none c none) E (Prog.lift (.store g (Rect.unit off s.size inb) w Finset.univ hx hm) >>= k) K := by
  show _ ⊢ wp frame (wpE (defs₀ (F := F)) Variants.none c none) E (.op (.store g (Rect.unit off s.size inb) w Finset.univ hx hm) k) K
  iintro ⟨H, Hk⟩
  unfold owns
  icases H with ⟨%f, %h, H⟩
  sl_step
  iapply Hk
  iexists _; isplitr; swap; · iexact H
  ipureintro
  exact View.read_writes_full _ _ inb w []

/-! ## One block of columns -/

/-- The columns `o, …, o+255` of a row of 2048. -/
abbrev rRow (o : ℕ) (h : ∀ a, (![0, o] : Fin 2 → Nat) a + S1x256.size a ≤ S1x2048.size a) : Rect S1x2048 :=
  Rect.unit (s := S1x2048) ![0, o] S1x256.size h

/-- The rows `o, …, o+255` of the projected features. -/
abbrev rFeat (o : ℕ) (h : ∀ a, (![o, 0] : Fin 2 → Nat) a + S256x512.size a ≤ S2048x512.size a) : Rect S2048x512 :=
  Rect.unit (s := S2048x512) ![o, 0] S256x512.size h

/-- The step over one block of columns, followed by the rest `k` of the program: when the block may hold a
    neighbour (`v`), its weights times its features are added to the accumulator and the weights to the sums. -/
def blockStep {α : Type} (o : ℕ) (hr : ∀ a, (![0, o] : Fin 2 → Nat) a + S1x256.size a ≤ S1x2048.size a)
    (hf : ∀ a, (![o, 0] : Fin 2 → Nat) a + S256x512.size a ≤ S2048x512.size a)
    (arg7 : Memref sig .tc .vmem S1x2048 .i32) (arg9 : Memref sig .tc .vmem S2048x512 .bf16) (arg11 : Memref sig .tc .vmem S1x2048 .f32)
    (arg14 : Memref sig .tc .vmem S256x512 .f32) (arg15 : Memref sig .tc .vmem S256x1 .f32)
    (v3 : Elt F .f32) (v6 : Vec F S256x1 .f32) (v9 : Vec F S256x1 .i32) (v : BitVec 1)
    (k : PUnit.{1} → Prog (TpuEff nD τ sig (Elt F) Λ₀ .tc) α) : Prog (TpuEff nD τ sig (Elt F) Λ₀ .tc) α :=
  if v = 1#1 then do
    let v96 : Vec F S1x256 .f32 ← Prog.lift (.load arg11 (rRow o hr).toLoadRect (View.loadsAt_vmem h_S1x256))
    let v103 : Vec F S1x256 .i32 ← Prog.lift (.load arg7 (rRow o hr).toLoadRect (View.loadsAt_vmem h_S1x256))
    let v113 : Vec F S256x512 .bf16 ← Prog.lift (.load arg9 (rFeat o hf).toLoadRect (View.loadsAt_vmem h_S256x512))
    let v114 : Vec F S256x512 .f32 ← Prog.lift (.load arg14 (Rect.unit (s := S256x512) ![0, 0] S256x512.size inb_S256x512_S256x512_0_0).toLoadRect (View.loadsAt_vmem h_S256x512))
    let v118 : Vec F S256x512 .f32 ← Prog.lift (.load arg14 (Rect.unit (s := S256x512) ![0, 0] S256x512.size inb_S256x512_S256x512_0_0).toLoadRect (View.loadsAt_vmem h_S256x512))
    Prog.lift (.store arg14 (Rect.unit (s := S256x512) ![0, 0] S256x512.size inb_S256x512_S256x512_0_0) (k0_pay2 v3 v6 v9 v96 v103 v113 v114) Finset.univ (View.stores_vmem_bits_univ h_S256x512 rfl) (.inl rfl))
    let v121 : Vec F S256x1 .f32 ← Prog.lift (.load arg15 (Rect.unit (s := S256x1) ![0, 0] S256x1.size inb_S256x1_S256x1_0_0).toLoadRect (View.loadsAt_vmem h_S256x1))
    let v125 : Vec F S256x1 .f32 ← Prog.lift (.load arg15 (Rect.unit (s := S256x1) ![0, 0] S256x1.size inb_S256x1_S256x1_0_0).toLoadRect (View.loadsAt_vmem h_S256x1))
    Prog.lift (.store arg15 (Rect.unit (s := S256x1) ![0, 0] S256x1.size inb_S256x1_S256x1_0_0) (k0_pay3 v3 v6 v9 v96 v103 v121) Finset.univ (View.stores_vmem_bits_univ h_S256x1 rfl) (.inl rfl))
    k ⟨⟩
  else k ⟨⟩

/-- The accumulator after one block. -/
def accStep (o : ℕ) (hr : ∀ a, (![0, o] : Fin 2 → Nat) a + S1x256.size a ≤ S1x2048.size a)
    (hf : ∀ a, (![o, 0] : Fin 2 → Nat) a + S256x512.size a ≤ S2048x512.size a)
    (ids : Vec F S1x2048 .i32) (wh : Vec F S2048x512 .bf16) (fj : Vec F S1x2048 .f32)
    (v3 : Elt F .f32) (v6 : Vec F S256x1 .f32) (v9 : Vec F S256x1 .i32) (v : BitVec 1) (acc : Vec F S256x512 .f32) : Vec F S256x512 .f32 :=
  if v = 1#1 then k0_pay2 v3 v6 v9 (View.ld fj (rRow o hr)) (View.ld ids (rRow o hr)) (View.ld wh (rFeat o hf)) acc else acc

/-- The sums of weights after one block. -/
def sumStep (o : ℕ) (hr : ∀ a, (![0, o] : Fin 2 → Nat) a + S1x256.size a ≤ S1x2048.size a)
    (ids : Vec F S1x2048 .i32) (fj : Vec F S1x2048 .f32)
    (v3 : Elt F .f32) (v6 : Vec F S256x1 .f32) (v9 : Vec F S256x1 .i32) (v : BitVec 1) (s : Vec F S256x1 .f32) : Vec F S256x1 .f32 :=
  if v = 1#1 then k0_pay3 v3 v6 v9 (View.ld fj (rRow o hr)) (View.ld ids (rRow o hr)) s else s

/-- The triple of one block: the arrays it reads are kept, the accumulator and the sums move by `accStep` and `sumStep`. -/
theorem blockStep_wp {α : Type} (c : Dev nD) (o : ℕ) (hr : ∀ a, (![0, o] : Fin 2 → Nat) a + S1x256.size a ≤ S1x2048.size a)
    (hf : ∀ a, (![o, 0] : Fin 2 → Nat) a + S256x512.size a ≤ S2048x512.size a)
    (arg7 : Memref sig .tc .vmem S1x2048 .i32) (harg7 : arg7.IsWhole) (arg9 : Memref sig .tc .vmem S2048x512 .bf16) (harg9 : arg9.IsWhole)
    (arg11 : Memref sig .tc .vmem S1x2048 .f32) (harg11 : arg11.IsWhole)
    (arg14 : Memref sig .tc .vmem S256x512 .f32) (harg14 : arg14.IsWhole) (arg15 : Memref sig .tc .vmem S256x1 .f32) (harg15 : arg15.IsWhole)
    (v3 : Elt F .f32) (v6 : Vec F S256x1 .f32) (v9 : Vec F S256x1 .i32) (v : BitVec 1)
    (ids : Vec F S1x2048 .i32) (wh : Vec F S2048x512 .bf16) (fj : Vec F S1x2048 .f32) (acc : Vec F S256x512 .f32) (s : Vec F S256x1 .f32)
    (k : PUnit.{1} → Prog (TpuEff nD τ sig (Elt F) Λ₀ .tc) α) (E : Set ℕ) (K : α → sProp 𝕄) :
    iprop(owns (c : Thread nD τ) arg7 fullShare ids ∗ owns (c : Thread nD τ) arg9 fullShare wh ∗ owns (c : Thread nD τ) arg11 fullShare fj
        ∗ owns (c : Thread nD τ) arg14 fullShare acc ∗ owns (c : Thread nD τ) arg15 fullShare s
        ∗ (iprop(owns (c : Thread nD τ) arg7 fullShare ids ∗ owns (c : Thread nD τ) arg9 fullShare wh ∗ owns (c : Thread nD τ) arg11 fullShare fj
            ∗ owns (c : Thread nD τ) arg14 fullShare (accStep o hr hf ids wh fj v3 v6 v9 v acc)
            ∗ owns (c : Thread nD τ) arg15 fullShare (sumStep o hr ids fj v3 v6 v9 v s))
            -∗ wp frame (wpE (defs₀ (F := F)) Variants.none c none) E (k ⟨⟩) K))
      ⊢ wp frame (wpE (defs₀ (F := F)) Variants.none c none) E (blockStep o hr hf arg7 arg9 arg11 arg14 arg15 v3 v6 v9 v k) K := by
  by_cases hv : v = 1#1
  · simp only [blockStep, accStep, sumStep, hv, if_true]
    unfold owns
    iintro ⟨⟨%f7, %h7, H7⟩, ⟨%f9, %h9, H9⟩, ⟨%f11, %h11, H11⟩, ⟨%f14, %h14, H14⟩, ⟨%f15, %h15, H15⟩, Hk⟩
    obtain rfl := harg7.eq_unread h7; obtain rfl := harg9.eq_unread h9; obtain rfl := harg11.eq_unread h11
    obtain rfl := harg14.eq_unread h14; obtain rfl := harg15.eq_unread h15
    sl_exec
    iapply Hk
    isplitl [H7]
    · iexists _; isplitr; · ipureintro; exact harg7.read_unread _
      iexact H7
    isplitl [H9]
    · iexists _; isplitr; · ipureintro; exact harg9.read_unread _
      iexact H9
    isplitl [H11]
    · iexists _; isplitr; · ipureintro; exact harg11.read_unread _
      iexact H11
    isplitl [H14]
    · iexists _; isplitr; swap; · iexact H14
      ipureintro
      rw [View.read_writes_full]; simp only [View.readAt_eq_ld, Memref.IsWhole.read_unread]
      exact congrArg _ (View.ld_unit_zero off00 _ _)
    iexists _; isplitr; swap; · iexact H15
    ipureintro
    rw [View.read_writes_full]; simp only [View.readAt_eq_ld, Memref.IsWhole.read_unread]
    exact congrArg _ (View.ld_unit_zero off00 _ _)
  · simp only [blockStep, accStep, sumStep, hv, if_false]
    iintro ⟨H7, H9, H11, H14, H15, Hk⟩
    iapply Hk
    isplitl [H7]; · iexact H7
    isplitl [H9]; · iexact H9
    isplitl [H11]; · iexact H11
    isplitl [H14]; · iexact H14
    iexact H15

/-- The word of the table `x` at position `o`. -/
abbrev word (x : Vec F S2048 .i32) (o : ℕ) (h : ∀ a, (![o] : Fin 1 → Nat) a + S1.size a ≤ S2048.size a) : Elt F .i32 :=
  View.ld x (Rect.unit (s := S2048) ![o] S1.size h) (Shape.Idx.first (numel1_S1.symm ▸ Nat.one_pos))

/-- The test whether a block of columns with ids from `lo` to `hi` may hold a neighbour of rows with ids from `v12` to `v17`. -/
def mayMeet (lo hi v12 v17 : BitVec 32) : BitVec 1 :=
  Scalar.cmpi .ne (Scalar.extui (Scalar.andi (Scalar.cmpi .sle lo v17) (Scalar.cmpi .sge hi v12))) 0#32

/-- The step over one block with the two reads of its test, followed by the rest `k` of the program. -/
def colStep {α : Type} (o : ℕ) (hl : ∀ a, (![o] : Fin 1 → Nat) a + S1.size a ≤ S2048.size a)
    (hh : ∀ a, (![o + 255] : Fin 1 → Nat) a + S1.size a ≤ S2048.size a)
    (hr : ∀ a, (![0, o] : Fin 2 → Nat) a + S1x256.size a ≤ S1x2048.size a)
    (hf : ∀ a, (![o, 0] : Fin 2 → Nat) a + S256x512.size a ≤ S2048x512.size a)
    (arg1 : Memref sig .tc .smem S2048 .i32)
    (arg7 : Memref sig .tc .vmem S1x2048 .i32) (arg9 : Memref sig .tc .vmem S2048x512 .bf16) (arg11 : Memref sig .tc .vmem S1x2048 .f32)
    (arg14 : Memref sig .tc .vmem S256x512 .f32) (arg15 : Memref sig .tc .vmem S256x1 .f32)
    (v3 : Elt F .f32) (v6 : Vec F S256x1 .f32) (v9 : Vec F S256x1 .i32) (v12 v17 : Elt F .i32)
    (k : PUnit.{1} → Prog (TpuEff nD τ sig (Elt F) Λ₀ .tc) α) : Prog (TpuEff nD τ sig (Elt F) Λ₀ .tc) α := do
  let lo : Elt F .i32 ← smemLoad arg1 (Rect.unit (s := S2048) ![o] S1.size hl) numel1_S1 rfl
  let hi : Elt F .i32 ← smemLoad arg1 (Rect.unit (s := S2048) ![o + 255] S1.size hh) numel1_S1 rfl
  blockStep o hr hf arg7 arg9 arg11 arg14 arg15 v3 v6 v9 (mayMeet lo hi v12 v17) k

/-- The triple of `colStep`. -/
theorem colStep_wp {α : Type} (c : Dev nD) (o : ℕ) (hl : ∀ a, (![o] : Fin 1 → Nat) a + S1.size a ≤ S2048.size a)
    (hh : ∀ a, (![o + 255] : Fin 1 → Nat) a + S1.size a ≤ S2048.size a)
    (hr : ∀ a, (![0, o] : Fin 2 → Nat) a + S1x256.size a ≤ S1x2048.size a)
    (hf : ∀ a, (![o, 0] : Fin 2 → Nat) a + S256x512.size a ≤ S2048x512.size a)
    (arg1 : Memref sig .tc .smem S2048 .i32) (harg1 : arg1.IsWhole)
    (arg7 : Memref sig .tc .vmem S1x2048 .i32) (harg7 : arg7.IsWhole) (arg9 : Memref sig .tc .vmem S2048x512 .bf16) (harg9 : arg9.IsWhole)
    (arg11 : Memref sig .tc .vmem S1x2048 .f32) (harg11 : arg11.IsWhole)
    (arg14 : Memref sig .tc .vmem S256x512 .f32) (harg14 : arg14.IsWhole) (arg15 : Memref sig .tc .vmem S256x1 .f32) (harg15 : arg15.IsWhole)
    (v3 : Elt F .f32) (v6 : Vec F S256x1 .f32) (v9 : Vec F S256x1 .i32) (v12 v17 : Elt F .i32)
    (tab : Vec F S2048 .i32) (ids : Vec F S1x2048 .i32) (wh : Vec F S2048x512 .bf16) (fj : Vec F S1x2048 .f32) (acc : Vec F S256x512 .f32) (s : Vec F S256x1 .f32)
    (k : PUnit.{1} → Prog (TpuEff nD τ sig (Elt F) Λ₀ .tc) α) (E : Set ℕ) (K : α → sProp 𝕄) :
    iprop(owns (c : Thread nD τ) arg1 fullShare tab ∗ owns (c : Thread nD τ) arg7 fullShare ids ∗ owns (c : Thread nD τ) arg9 fullShare wh ∗ owns (c : Thread nD τ) arg11 fullShare fj
        ∗ owns (c : Thread nD τ) arg14 fullShare acc ∗ owns (c : Thread nD τ) arg15 fullShare s
        ∗ (iprop(owns (c : Thread nD τ) arg1 fullShare tab ∗ owns (c : Thread nD τ) arg7 fullShare ids ∗ owns (c : Thread nD τ) arg9 fullShare wh ∗ owns (c : Thread nD τ) arg11 fullShare fj
            ∗ owns (c : Thread nD τ) arg14 fullShare (accStep o hr hf ids wh fj v3 v6 v9 (mayMeet (word tab o hl) (word tab (o + 255) hh) v12 v17) acc)
            ∗ owns (c : Thread nD τ) arg15 fullShare (sumStep o hr ids fj v3 v6 v9 (mayMeet (word tab o hl) (word tab (o + 255) hh) v12 v17) s))
            -∗ wp frame (wpE (defs₀ (F := F)) Variants.none c none) E (k ⟨⟩) K))
      ⊢ wp frame (wpE (defs₀ (F := F)) Variants.none c none) E (colStep o hl hh hr hf arg1 arg7 arg9 arg11 arg14 arg15 v3 v6 v9 v12 v17 k) K := by
  unfold colStep
  iintro ⟨H1, H7, H9, H11, H14, H15, Hk⟩
  iapply (word_wp c arg1 harg1 tab)
  isplitl [H1]; · iexact H1
  iintro H1
  iapply (word_wp c arg1 harg1 tab)
  isplitl [H1]; · iexact H1
  iintro H1
  iapply (blockStep_wp c o hr hf arg7 harg7 arg9 harg9 arg11 harg11 arg14 harg14 arg15 harg15 v3 v6 v9 _ ids wh fj acc s k E K)
  isplitl [H7]; · iexact H7
  isplitl [H9]; · iexact H9
  isplitl [H11]; · iexact H11
  isplitl [H14]; · iexact H14
  isplitl [H15]; · iexact H15
  iintro ⟨H7, H9, H11, H14, H15⟩
  iapply Hk
  isplitl [H1]; · iexact H1
  isplitl [H7]; · iexact H7
  isplitl [H9]; · iexact H9
  isplitl [H11]; · iexact H11
  isplitl [H14]; · iexact H14
  iexact H15

end Cert.Proof.KI
-- ==== Proof.Whole.lean ====
/-
  The kernel body of `KernelIdeal` as a whole: the prologue, the eight blocks of columns, the division.
-/
module

public import proofs.«01_k».proof.Proof.Body

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the prologue computes -/

/-- The last attention weight, the additive constant of the scores. -/
abbrev attLast (attS : Vec F S1x1025 .f32) : Elt F .f32 :=
  View.ld attS (Rect.unit (s := S1x1025) ![0, 1024] S1x1.size inb_S1x1025_S1x1_0_1024) (Shape.Idx.first (numel1_S1x1.symm ▸ Nat.one_pos))

/-- The attention weights of the neighbour. -/
abbrev attNb (attV : Vec F S1x1025 .f32) : Vec F S1x512 .f32 :=
  View.ld attV (Rect.unit (s := S1x1025) ![0, 512] S1x512.size inb_S1x1025_S1x512_0_512)

/-- The projected features, narrowed. -/
def whV (h : Vec F S2048x512 .f32) (W : Vec F S512x512 .f32) : Vec F S2048x512 .bf16 := k0_pay9 h W
/-- The rows' part of the scores, as a column. -/
def fiV (attS : Vec F S1x1025 .f32) (h : Vec F S2048x512 .f32) (W : Vec F S512x512 .f32) (ai : Vec F S512x1 .f32) : Vec F S2048x1 .f32 :=
  k0_pay11 h W (attLast attS) ai
/-- The neighbours' part of the scores, as a row. -/
def fjV (h : Vec F S2048x512 .f32) (W : Vec F S512x512 .f32) (attV : Vec F S1x1025 .f32) : Vec F S1x2048 .f32 := k0_pay13 h W (attNb attV)
/-- The segment ids as a column. -/
def idV (idc : Vec F S1x2048 .i32) : Vec F S2048x1 .i32 := k0_pay15 idc
/-- The mark of the rows alone in their segment. -/
def aloneV (idc : Vec F S1x2048 .i32) : Vec F S2048x1 .i32 := k0_pay17 (k0_pay14 (F := F) idc) (k0_pay16 (F := F) idc) 2047#32
/-- The shift of the exponents, one bound for all scores. -/
def topV (attS : Vec F S1x1025 .f32) (h : Vec F S2048x512 .f32) (W : Vec F S512x512 .f32) (attV : Vec F S1x1025 .f32) (ai : Vec F S512x1 .f32) : Vec F S1x1 .f32 :=
  fun _ => k0_pay18 (k0_pay10 h W (attLast attS) ai) (k0_pay12 h W (attNb attV))

/-! ## The prologue -/

/-- The first part of the prologue: four arrays are filled, five values returned. -/
theorem part1_wp (c : Dev nD) (i : grid0.Coords) (arg1 : Memref sig .tc .smem S2048 .i32) (harg1 : arg1.IsWhole) (arg2 : Memref sig .tc .smem S1x1025 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x1025 .f32) (harg5 : arg5.IsWhole) (arg6 : Memref sig .tc .vmem S512x1 .f32) (harg6 : arg6.IsWhole) (arg7 : Memref sig .tc .vmem S1x2048 .i32) (harg7 : arg7.IsWhole) (arg8 : Memref sig .tc .vmem S256x512 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S1x2048 .f32) (harg11 : arg11.IsWhole) (arg12 : Memref sig .tc .vmem S2048x1 .i32) (harg12 : arg12.IsWhole) (arg13 : Memref sig .tc .vmem S2048x1 .i32) (harg13 : arg13.IsWhole) (arg14 : Memref sig .tc .vmem S256x512 .f32) (harg14 : arg14.IsWhole) (arg15 : Memref sig .tc .vmem S256x1 .f32) (harg15 : arg15.IsWhole) (arg16 : Memref sig .tc .smem S1x1 .f32) (harg16 : arg16.IsWhole)
    (attS : Vec F S1x1025 .f32) (h : Vec F S2048x512 .f32) (W : Vec F S512x512 .f32) (attV : Vec F S1x1025 .f32) (ai : Vec F S512x1 .f32) (idc : Vec F S1x2048 .i32)
    (E : Set ℕ) (K : (Σ' (v111 : FVec F S2048x1 .f32) (v115 : FVec F S1x2048 .f32) (v120 : IVec S1x2048 32) (v126 : IVec S1x2048 1), BitVec 32) → sProp 𝕄) :
    iprop(owns (c : Thread nD τ) arg2 fullShare attS ∗ owns (c : Thread nD τ) arg3 fullShare h ∗ owns (c : Thread nD τ) arg4 fullShare W ∗ owns (c : Thread nD τ) arg5 fullShare attV ∗ owns (c : Thread nD τ) arg6 fullShare ai ∗ owns (c : Thread nD τ) arg7 fullShare idc ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare attS ∗ owns (c : Thread nD τ) arg3 fullShare h ∗ owns (c : Thread nD τ) arg4 fullShare W ∗ owns (c : Thread nD τ) arg5 fullShare attV ∗ owns (c : Thread nD τ) arg6 fullShare ai ∗ owns (c : Thread nD τ) arg7 fullShare idc ∗ owns (c : Thread nD τ) arg9 fullShare (whV h W) ∗ owns (c : Thread nD τ) arg10 fullShare (fiV attS h W ai) ∗ owns (c : Thread nD τ) arg11 fullShare (fjV h W attV) ∗ owns (c : Thread nD τ) arg12 fullShare (idV idc))
            -∗ K ⟨k0_pay10 h W (attLast attS) ai, k0_pay12 h W (attNb attV), k0_pay14 (F := F) idc, k0_pay16 (F := F) idc, 2047#32⟩))
      ⊢ wp frame (wpE (defs₀ (F := F)) Variants.none c none) E (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part1_eq_skeleton]; unfold k0_part1_skel
  iintro ⟨H2, H3, H4, H5, H6, H7, ⟨%d9, H9⟩, ⟨%d10, H10⟩, ⟨%d11, H11⟩, ⟨%d12, H12⟩, Hk⟩
  iapply (load_full_wp c arg3 harg3)
  isplitl [H3]; · iexact H3
  iintro H3
  iapply (load_full_wp c arg4 harg4)
  isplitl [H4]; · iexact H4
  iintro H4
  iapply (load_full_wp c arg9 harg9)
  isplitl [H9]; · iexact H9
  iintro H9
  iapply (store_wp c arg9 harg9)
  isplitl [H9]; · iexact H9
  iintro H9
  iapply (word_wp c arg2 harg2)
  isplitl [H2]; · iexact H2
  iintro H2
  iapply (load_wp c arg5 harg5)
  isplitl [H5]; · iexact H5
  iintro H5
  iapply (load_full_wp c arg6 harg6)
  isplitl [H6]; · iexact H6
  iintro H6
  iapply (load_full_wp c arg10 harg10)
  isplitl [H10]; · iexact H10
  iintro H10
  iapply (store_wp c arg10 harg10)
  isplitl [H10]; · iexact H10
  iintro H10
  iapply (load_full_wp c arg11 harg11)
  isplitl [H11]; · iexact H11
  iintro H11
  iapply (store_wp c arg11 harg11)
  isplitl [H11]; · iexact H11
  iintro H11
  iapply (load_full_wp c arg7 harg7)
  isplitl [H7]; · iexact H7
  iintro H7
  iapply (load_full_wp c arg12 harg12)
  isplitl [H12]; · iexact H12
  iintro H12
  iapply (store_wp c arg12 harg12)
  isplitl [H12]; · iexact H12
  iintro H12
  sl_step
  iapply Hk
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  iexact H12

/-- The prologue, taken at the first point alone, followed by the rest `k` of the program. -/
def prologStep {α : Type} (i : grid0.Coords) (arg1 : Memref sig .tc .smem S2048 .i32) (harg1 : arg1.IsWhole) (arg2 : Memref sig .tc .smem S1x1025 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x1025 .f32) (harg5 : arg5.IsWhole) (arg6 : Memref sig .tc .vmem S512x1 .f32) (harg6 : arg6.IsWhole) (arg7 : Memref sig .tc .vmem S1x2048 .i32) (harg7 : arg7.IsWhole) (arg8 : Memref sig .tc .vmem S256x512 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S1x2048 .f32) (harg11 : arg11.IsWhole) (arg12 : Memref sig .tc .vmem S2048x1 .i32) (harg12 : arg12.IsWhole) (arg13 : Memref sig .tc .vmem S2048x1 .i32) (harg13 : arg13.IsWhole) (arg14 : Memref sig .tc .vmem S256x512 .f32) (harg14 : arg14.IsWhole) (arg15 : Memref sig .tc .vmem S256x1 .f32) (harg15 : arg15.IsWhole) (arg16 : Memref sig .tc .smem S1x1 .f32) (harg16 : arg16.IsWhole)
    (k : PUnit.{1} → Prog (TpuEff nD τ sig (Elt F) Λ₀ .tc) α) : Prog (TpuEff nD τ sig (Elt F) Λ₀ .tc) α :=
  if k0_h1 : Scalar.cmpi .ne (Scalar.extui (Scalar.cmpi .eq (BitVec.ofNat 32 (i 0).val) 0#32) : BitVec 32) 0#32 = 1#1 then do
    let ⟨v111, v115, v120, v126, c2047_i32⟩ : Σ' (v111 : FVec F S2048x1 .f32) (v115 : FVec F S1x2048 .f32) (v120 : IVec S1x2048 32) (v126 : IVec S1x2048 1), BitVec 32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
    let v132 : Vec F S2048x1 .i32 ← Prog.lift (.load arg13 (Rect.unit (s := S2048x1) ![0, 0] S2048x1.size inb_S2048x1_S2048x1_0_0).toLoadRect (View.loadsAt_vmem h_S2048x1))
    Prog.lift (.store arg13 (Rect.unit (s := S2048x1) ![0, 0] S2048x1.size inb_S2048x1_S2048x1_0_0) (k0_pay17 v120 v126 c2047_i32) Finset.univ (View.stores_vmem_bits_univ h_S2048x1 rfl) (.inl rfl))
    let v146 : Elt F .f32 ← smemLoad arg16 (Rect.unit (s := S1x1) ![0, 0] S1x1.size inb_S1x1_S1x1_0_0) numel1_S1x1 rfl
    Prog.lift (.store arg16 (Rect.unit (s := S1x1) ![0, 0] S1x1.size inb_S1x1_S1x1_0_0) (fun _ => k0_pay18 v111 v115) Finset.univ (View.stores_smem_one rfl numel1_S1x1) (.inl rfl))
    k ⟨⟩
  else k ⟨⟩

/-- The test of the first point. -/
def isFirst (i : grid0.Coords) : Prop :=
  Scalar.cmpi .ne (Scalar.extui (Scalar.cmpi .eq (BitVec.ofNat 32 (i 0).val) 0#32) : BitVec 32) 0#32 = 1#1

/-- The prologue at the first point fills the six arrays. -/
theorem prolog_first {α : Type} (c : Dev nD) (i : grid0.Coords) (arg1 : Memref sig .tc .smem S2048 .i32) (harg1 : arg1.IsWhole) (arg2 : Memref sig .tc .smem S1x1025 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x1025 .f32) (harg5 : arg5.IsWhole) (arg6 : Memref sig .tc .vmem S512x1 .f32) (harg6 : arg6.IsWhole) (arg7 : Memref sig .tc .vmem S1x2048 .i32) (harg7 : arg7.IsWhole) (arg8 : Memref sig .tc .vmem S256x512 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S1x2048 .f32) (harg11 : arg11.IsWhole) (arg12 : Memref sig .tc .vmem S2048x1 .i32) (harg12 : arg12.IsWhole) (arg13 : Memref sig .tc .vmem S2048x1 .i32) (harg13 : arg13.IsWhole) (arg14 : Memref sig .tc .vmem S256x512 .f32) (harg14 : arg14.IsWhole) (arg15 : Memref sig .tc .vmem S256x1 .f32) (harg15 : arg15.IsWhole) (arg16 : Memref sig .tc .smem S1x1 .f32) (harg16 : arg16.IsWhole) (hi : isFirst i)
    (attS : Vec F S1x1025 .f32) (h : Vec F S2048x512 .f32) (W : Vec F S512x512 .f32) (attV : Vec F S1x1025 .f32) (ai : Vec F S512x1 .f32) (idc : Vec F S1x2048 .i32)
    (k : PUnit.{1} → Prog (TpuEff nD τ sig (Elt F) Λ₀ .tc) α) (E : Set ℕ) (K : α → sProp 𝕄) :
    iprop(owns (c : Thread nD τ) arg2 fullShare attS ∗ owns (c : Thread nD τ) arg3 fullShare h ∗ owns (c : Thread nD τ) arg4 fullShare W ∗ owns (c : Thread nD τ) arg5 fullShare attV ∗ owns (c : Thread nD τ) arg6 fullShare ai ∗ owns (c : Thread nD τ) arg7 fullShare idc ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg16 fullShare d)
        ∗ (iprop(owns (c : Thread nD τ) arg2 fullShare attS ∗ owns (c : Thread nD τ) arg3 fullShare h ∗ owns (c : Thread nD τ) arg4 fullShare W ∗ owns (c : Thread nD τ) arg5 fullShare attV ∗ owns (c : Thread nD τ) arg6 fullShare ai ∗ owns (c : Thread nD τ) arg7 fullShare idc ∗ owns (c : Thread nD τ) arg9 fullShare (whV h W) ∗ owns (c : Thread nD τ) arg10 fullShare (fiV attS h W ai) ∗ owns (c : Thread nD τ) arg11 fullShare (fjV h W attV) ∗ owns (c : Thread nD τ) arg12 fullShare (idV idc) ∗ owns (c : Thread nD τ) arg13 fullShare (aloneV idc) ∗ owns (c : Thread nD τ) arg16 fullShare (topV attS h W attV ai))
            -∗ wp frame (wpE (defs₀ (F := F)) Variants.none c none) E (k ⟨⟩) K))
      ⊢ wp frame (wpE (defs₀ (F := F)) Variants.none c none) E (prologStep i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k) K := by
  unfold prologStep
  unfold isFirst at hi
  rw [dif_pos hi]
  iintro ⟨H2, H3, H4, H5, H6, H7, H9, H10, H11, H12, ⟨%d13, H13⟩, ⟨%d16, H16⟩, Hk⟩
  rw [wp_bind]
  iapply (part1_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 attS h W attV ai idc)
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  iintro ⟨H2, H3, H4, H5, H6, H7, H9, H10, H11, H12⟩
  iapply (load_full_wp c arg13 harg13)
  isplitl [H13]; · iexact H13
  iintro H13
  iapply (store_wp c arg13 harg13)
  isplitl [H13]; · iexact H13
  iintro H13
  iapply (word_wp c arg16 harg16)
  isplitl [H16]; · iexact H16
  iintro H16
  iapply (store_wp c arg16 harg16)
  isplitl [H16]; · iexact H16
  iintro H16
  iapply Hk
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H13]; · iexact H13
  iexact H16

/-- The prologue is skipped at the other points. -/
theorem prolog_later {α : Type} (i : grid0.Coords) (arg1 : Memref sig .tc .smem S2048 .i32) (harg1 : arg1.IsWhole) (arg2 : Memref sig .tc .smem S1x1025 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x1025 .f32) (harg5 : arg5.IsWhole) (arg6 : Memref sig .tc .vmem S512x1 .f32) (harg6 : arg6.IsWhole) (arg7 : Memref sig .tc .vmem S1x2048 .i32) (harg7 : arg7.IsWhole) (arg8 : Memref sig .tc .vmem S256x512 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S1x2048 .f32) (harg11 : arg11.IsWhole) (arg12 : Memref sig .tc .vmem S2048x1 .i32) (harg12 : arg12.IsWhole) (arg13 : Memref sig .tc .vmem S2048x1 .i32) (harg13 : arg13.IsWhole) (arg14 : Memref sig .tc .vmem S256x512 .f32) (harg14 : arg14.IsWhole) (arg15 : Memref sig .tc .vmem S256x1 .f32) (harg15 : arg15.IsWhole) (arg16 : Memref sig .tc .smem S1x1 .f32) (harg16 : arg16.IsWhole) (hi : ¬ isFirst i)
    (k : PUnit.{1} → Prog (TpuEff nD τ sig (Elt F) Λ₀ .tc) α) :
    prologStep (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k = k ⟨⟩ := dif_neg hi

/-! ## The eight blocks -/

/-- The accumulator after the block of columns at `o`, the test of the block included. -/
abbrev accAt (tab : Vec F S2048 .i32) (idc : Vec F S1x2048 .i32) (wh : Vec F S2048x512 .bf16) (fj : Vec F S1x2048 .f32) (v3 : Elt F .f32) (v6 : Vec F S256x1 .f32) (v9 : Vec F S256x1 .i32) (v12 v17 : Elt F .i32) (o : ℕ) (hl : ∀ a, (![o] : Fin 1 → Nat) a + S1.size a ≤ S2048.size a)
    (hh : ∀ a, (![o + 255] : Fin 1 → Nat) a + S1.size a ≤ S2048.size a)
    (hr : ∀ a, (![0, o] : Fin 2 → Nat) a + S1x256.size a ≤ S1x2048.size a)
    (hf : ∀ a, (![o, 0] : Fin 2 → Nat) a + S256x512.size a ≤ S2048x512.size a) (acc : Vec F S256x512 .f32) : Vec F S256x512 .f32 :=
  accStep o hr hf idc wh fj v3 v6 v9 (mayMeet (word tab o hl) (word tab (o + 255) hh) v12 v17) acc

/-- The sums of weights after the block of columns at `o`, the test of the block included. -/
abbrev sumAt (tab : Vec F S2048 .i32) (idc : Vec F S1x2048 .i32) (wh : Vec F S2048x512 .bf16) (fj : Vec F S1x2048 .f32) (v3 : Elt F .f32) (v6 : Vec F S256x1 .f32) (v9 : Vec F S256x1 .i32) (v12 v17 : Elt F .i32) (o : ℕ) (hl : ∀ a, (![o] : Fin 1 → Nat) a + S1.size a ≤ S2048.size a)
    (hh : ∀ a, (![o + 255] : Fin 1 → Nat) a + S1.size a ≤ S2048.size a)
    (hr : ∀ a, (![0, o] : Fin 2 → Nat) a + S1x256.size a ≤ S1x2048.size a) (s : Vec F S256x1 .f32) : Vec F S256x1 .f32 :=
  sumStep o hr idc fj v3 v6 v9 (mayMeet (word tab o hl) (word tab (o + 255) hh) v12 v17) s

/-- The accumulator after the first block. -/
def acc1 (tab : Vec F S2048 .i32) (idc : Vec F S1x2048 .i32) (wh : Vec F S2048x512 .bf16) (fj : Vec F S1x2048 .f32) (v3 : Elt F .f32) (v6 : Vec F S256x1 .f32) (v9 : Vec F S256x1 .i32) (v12 v17 : Elt F .i32) : Vec F S256x512 .f32 := accAt tab idc wh fj v3 v6 v9 v12 v17 0 inb_S2048_S1_0 inb_S2048_S1_255 inb_S1x2048_S1x256_0_0 inb_S2048x512_S256x512_0_0 (k0_pay19 (F := F))
/-- The sums after the first block. -/
def sum1 (tab : Vec F S2048 .i32) (idc : Vec F S1x2048 .i32) (wh : Vec F S2048x512 .bf16) (fj : Vec F S1x2048 .f32) (v3 : Elt F .f32) (v6 : Vec F S256x1 .f32) (v9 : Vec F S256x1 .i32) (v12 v17 : Elt F .i32) : Vec F S256x1 .f32 := sumAt tab idc wh fj v3 v6 v9 v12 v17 0 inb_S2048_S1_0 inb_S2048_S1_255 inb_S1x2048_S1x256_0_0 (k0_pay20 (F := F))
/-- The accumulator after blocks two to six. -/
def acc6 (tab : Vec F S2048 .i32) (idc : Vec F S1x2048 .i32) (wh : Vec F S2048x512 .bf16) (fj : Vec F S1x2048 .f32) (v3 : Elt F .f32) (v6 : Vec F S256x1 .f32) (v9 : Vec F S256x1 .i32) (v12 v17 : Elt F .i32) (acc : Vec F S256x512 .f32) : Vec F S256x512 .f32 :=
  accAt tab idc wh fj v3 v6 v9 v12 v17 1280 inb_S2048_S1_1280 inb_S2048_S1_1535 inb_S1x2048_S1x256_0_1280 inb_S2048x512_S256x512_1280_0 (accAt tab idc wh fj v3 v6 v9 v12 v17 1024 inb_S2048_S1_1024 inb_S2048_S1_1279 inb_S1x2048_S1x256_0_1024 inb_S2048x512_S256x512_1024_0 (accAt tab idc wh fj v3 v6 v9 v12 v17 768 inb_S2048_S1_768 inb_S2048_S1_1023 inb_S1x2048_S1x256_0_768 inb_S2048x512_S256x512_768_0 (accAt tab idc wh fj v3 v6 v9 v12 v17 512 inb_S2048_S1_512 inb_S2048_S1_767 inb_S1x2048_S1x256_0_512 inb_S2048x512_S256x512_512_0 (accAt tab idc wh fj v3 v6 v9 v12 v17 256 inb_S2048_S1_256 inb_S2048_S1_511 inb_S1x2048_S1x256_0_256 inb_S2048x512_S256x512_256_0 acc))))
/-- The sums after blocks two to six. -/
def sum6 (tab : Vec F S2048 .i32) (idc : Vec F S1x2048 .i32) (wh : Vec F S2048x512 .bf16) (fj : Vec F S1x2048 .f32) (v3 : Elt F .f32) (v6 : Vec F S256x1 .f32) (v9 : Vec F S256x1 .i32) (v12 v17 : Elt F .i32) (s : Vec F S256x1 .f32) : Vec F S256x1 .f32 :=
  sumAt tab idc wh fj v3 v6 v9 v12 v17 1280 inb_S2048_S1_1280 inb_S2048_S1_1535 inb_S1x2048_S1x256_0_1280 (sumAt tab idc wh fj v3 v6 v9 v12 v17 1024 inb_S2048_S1_1024 inb_S2048_S1_1279 inb_S1x2048_S1x256_0_1024 (sumAt tab idc wh fj v3 v6 v9 v12 v17 768 inb_S2048_S1_768 inb_S2048_S1_1023 inb_S1x2048_S1x256_0_768 (sumAt tab idc wh fj v3 v6 v9 v12 v17 512 inb_S2048_S1_512 inb_S2048_S1_767 inb_S1x2048_S1x256_0_512 (sumAt tab idc wh fj v3 v6 v9 v12 v17 256 inb_S2048_S1_256 inb_S2048_S1_511 inb_S1x2048_S1x256_0_256 s))))
/-- The accumulator after the last two blocks. -/
def acc8 (tab : Vec F S2048 .i32) (idc : Vec F S1x2048 .i32) (wh : Vec F S2048x512 .bf16) (fj : Vec F S1x2048 .f32) (v3 : Elt F .f32) (v6 : Vec F S256x1 .f32) (v9 : Vec F S256x1 .i32) (v12 v17 : Elt F .i32) (acc : Vec F S256x512 .f32) : Vec F S256x512 .f32 :=
  accAt tab idc wh fj v3 v6 v9 v12 v17 1792 inb_S2048_S1_1792 inb_S2048_S1_2047 inb_S1x2048_S1x256_0_1792 inb_S2048x512_S256x512_1792_0 (accAt tab idc wh fj v3 v6 v9 v12 v17 1536 inb_S2048_S1_1536 inb_S2048_S1_1791 inb_S1x2048_S1x256_0_1536 inb_S2048x512_S256x512_1536_0 acc)
/-- The sums after the last two blocks. -/
def sum8 (tab : Vec F S2048 .i32) (idc : Vec F S1x2048 .i32) (wh : Vec F S2048x512 .bf16) (fj : Vec F S1x2048 .f32) (v3 : Elt F .f32) (v6 : Vec F S256x1 .f32) (v9 : Vec F S256x1 .i32) (v12 v17 : Elt F .i32) (s : Vec F S256x1 .f32) : Vec F S256x1 .f32 :=
  sumAt tab idc wh fj v3 v6 v9 v12 v17 1792 inb_S2048_S1_1792 inb_S2048_S1_2047 inb_S1x2048_S1x256_0_1792 (sumAt tab idc wh fj v3 v6 v9 v12 v17 1536 inb_S2048_S1_1536 inb_S2048_S1_1791 inb_S1x2048_S1x256_0_1536 s)

/-- The second part of the body: the prologue, the reads of the rows' data, the zeroing, the first block. -/
def part2 (i : grid0.Coords) (arg1 : Memref sig .tc .smem S2048 .i32) (harg1 : arg1.IsWhole) (arg2 : Memref sig .tc .smem S1x1025 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x1025 .f32) (harg5 : arg5.IsWhole) (arg6 : Memref sig .tc .vmem S512x1 .f32) (harg6 : arg6.IsWhole) (arg7 : Memref sig .tc .vmem S1x2048 .i32) (harg7 : arg7.IsWhole) (arg8 : Memref sig .tc .vmem S256x512 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S1x2048 .f32) (harg11 : arg11.IsWhole) (arg12 : Memref sig .tc .vmem S2048x1 .i32) (harg12 : arg12.IsWhole) (arg13 : Memref sig .tc .vmem S2048x1 .i32) (harg13 : arg13.IsWhole) (arg14 : Memref sig .tc .vmem S256x512 .f32) (harg14 : arg14.IsWhole) (arg15 : Memref sig .tc .vmem S256x1 .f32) (harg15 : arg15.IsWhole) (arg16 : Memref sig .tc .smem S1x1 .f32) (harg16 : arg16.IsWhole) :
    Prog (TpuEff nD τ sig (Elt F) Λ₀ .tc) (Σ' (arg0 : BitVec 32) (v3 : Elt F .f32) (v6 : Vec F S256x1 .f32) (v9 : Vec F S256x1 .i32) (v12 : Elt F .i32), Elt F .i32) :=
  prologStep i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 fun _ => do
  let v3 : Elt F .f32 ← smemLoad arg16 (Rect.unit (s := S1x1) ![0, 0] S1x1.size inb_S1x1_S1x1_0_0) numel1_S1x1 rfl
  let v6 : Vec F S256x1 .f32 ← Prog.lift (.load arg10 (Rect.unit (s := S2048x1) (k0_off1 i) S256x1.size (k0_off1_inb i)).toLoadRect (View.loadsAt_vmem h_S256x1))
  let v9 : Vec F S256x1 .i32 ← Prog.lift (.load arg12 (Rect.unit (s := S2048x1) (k0_off1 i) S256x1.size (k0_off1_inb i)).toLoadRect (View.loadsAt_vmem h_S256x1))
  let v12 : Elt F .i32 ← smemLoad arg1 (Rect.unit (s := S2048) (k0_off2 i) S1.size (k0_off2_inb i)) numel1_S1 rfl
  let v17 : Elt F .i32 ← smemLoad arg1 (Rect.unit (s := S2048) (k0_off3 i) S1.size (k0_off3_inb i)) numel1_S1 rfl
  let v19 : Vec F S256x512 .f32 ← Prog.lift (.load arg14 (Rect.unit (s := S256x512) ![0, 0] S256x512.size inb_S256x512_S256x512_0_0).toLoadRect (View.loadsAt_vmem h_S256x512))
  Prog.lift (.store arg14 (Rect.unit (s := S256x512) ![0, 0] S256x512.size inb_S256x512_S256x512_0_0) (k0_pay19 (F := F)) Finset.univ (View.stores_vmem_bits_univ h_S256x512 rfl) (.inl rfl))
  let v23 : Vec F S256x1 .f32 ← Prog.lift (.load arg15 (Rect.unit (s := S256x1) ![0, 0] S256x1.size inb_S256x1_S256x1_0_0).toLoadRect (View.loadsAt_vmem h_S256x1))
  Prog.lift (.store arg15 (Rect.unit (s := S256x1) ![0, 0] S256x1.size inb_S256x1_S256x1_0_0) (k0_pay20 (F := F)) Finset.univ (View.stores_vmem_bits_univ h_S256x1 rfl) (.inl rfl))
  colStep 0 inb_S2048_S1_0 inb_S2048_S1_255 inb_S1x2048_S1x256_0_0 inb_S2048x512_S256x512_0_0 arg1 arg7 arg9 arg11 arg14 arg15 v3 v6 v9 v12 v17 fun _ => pure ⟨BitVec.ofNat 32 (i 0).val, v3, v6, v9, v12, v17⟩

/-- It is the printed one. -/
theorem part2_eq : k0_part2 (F := F) = part2 (F := F) := rfl

/-- The rows' part of the scores at the point's rows. -/
abbrev rowF (fi : Vec F S2048x1 .f32) (i : grid0.Coords) : Vec F S256x1 .f32 := View.ld fi (Rect.unit (s := S2048x1) (k0_off1 i) S256x1.size (k0_off1_inb i))
/-- The segment ids of the point's rows. -/
abbrev rowI (ids : Vec F S2048x1 .i32) (i : grid0.Coords) : Vec F S256x1 .i32 := View.ld ids (Rect.unit (s := S2048x1) (k0_off1 i) S256x1.size (k0_off1_inb i))
/-- The first id of the point's rows. -/
abbrev rowLo (tab : Vec F S2048 .i32) (i : grid0.Coords) : Elt F .i32 :=
  View.ld tab (Rect.unit (s := S2048) (k0_off2 i) S1.size (k0_off2_inb i)) (Shape.Idx.first (numel1_S1.symm ▸ Nat.one_pos))
/-- The last id of the point's rows. -/
abbrev rowHi (tab : Vec F S2048 .i32) (i : grid0.Coords) : Elt F .i32 :=
  View.ld tab (Rect.unit (s := S2048) (k0_off3 i) S1.size (k0_off3_inb i)) (Shape.Idx.first (numel1_S1.symm ▸ Nat.one_pos))
/-- The bound of the scores, from its word. -/
abbrev topS (top : Vec F S1x1 .f32) : Elt F .f32 :=
  View.ld top (Rect.unit (s := S1x1) ![0, 0] S1x1.size inb_S1x1_S1x1_0_0) (Shape.Idx.first (numel1_S1x1.symm ▸ Nat.one_pos))

/-- The mark of the point's rows alone in their segment. -/
abbrev rowA (al : Vec F S2048x1 .i32) (i : grid0.Coords) : Vec F S256x1 .i32 := View.ld al (Rect.unit (s := S2048x1) (k0_off4 i) S256x1.size (k0_off4_inb i))

/-- The second part after the prologue: the accumulator and the sums hold the first block's. -/
theorem part2_rest (c : Dev nD) (i : grid0.Coords) (arg1 : Memref sig .tc .smem S2048 .i32) (harg1 : arg1.IsWhole) (arg2 : Memref sig .tc .smem S1x1025 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x1025 .f32) (harg5 : arg5.IsWhole) (arg6 : Memref sig .tc .vmem S512x1 .f32) (harg6 : arg6.IsWhole) (arg7 : Memref sig .tc .vmem S1x2048 .i32) (harg7 : arg7.IsWhole) (arg8 : Memref sig .tc .vmem S256x512 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S1x2048 .f32) (harg11 : arg11.IsWhole) (arg12 : Memref sig .tc .vmem S2048x1 .i32) (harg12 : arg12.IsWhole) (arg13 : Memref sig .tc .vmem S2048x1 .i32) (harg13 : arg13.IsWhole) (arg14 : Memref sig .tc .vmem S256x512 .f32) (harg14 : arg14.IsWhole) (arg15 : Memref sig .tc .vmem S256x1 .f32) (harg15 : arg15.IsWhole) (arg16 : Memref sig .tc .smem S1x1 .f32) (harg16 : arg16.IsWhole)
    (tab : Vec F S2048 .i32) (idc : Vec F S1x2048 .i32) (wh : Vec F S2048x512 .bf16) (fi : Vec F S2048x1 .f32) (fj : Vec F S1x2048 .f32) (ids : Vec F S2048x1 .i32) (al : Vec F S2048x1 .i32) (top : Vec F S1x1 .f32)
    (E : Set ℕ) (K : (Σ' (arg0 : BitVec 32) (v3 : Elt F .f32) (v6 : Vec F S256x1 .f32) (v9 : Vec F S256x1 .i32) (v12 : Elt F .i32), Elt F .i32) → sProp 𝕄) :
    iprop(owns (c : Thread nD τ) arg1 fullShare tab ∗ owns (c : Thread nD τ) arg7 fullShare idc ∗ owns (c : Thread nD τ) arg9 fullShare wh ∗ owns (c : Thread nD τ) arg10 fullShare fi ∗ owns (c : Thread nD τ) arg11 fullShare fj ∗ owns (c : Thread nD τ) arg12 fullShare ids ∗ owns (c : Thread nD τ) arg16 fullShare top ∗ (∃ d, owns (c : Thread nD τ) arg14 fullShare d) ∗ (∃ d, owns (c : Thread nD τ) arg15 fullShare d)
        ∗ (iprop(owns (c : Thread nD τ) arg1 fullShare tab ∗ owns (c : Thread nD τ) arg7 fullShare idc ∗ owns (c : Thread nD τ) arg9 fullShare wh ∗ owns (c : Thread nD τ) arg10 fullShare fi ∗ owns (c : Thread nD τ) arg11 fullShare fj ∗ owns (c : Thread nD τ) arg12 fullShare ids ∗ owns (c : Thread nD τ) arg16 fullShare top ∗ owns (c : Thread nD τ) arg14 fullShare (acc1 tab idc wh fj (topS top) (rowF fi i) (rowI (F := F) ids i) (rowLo (F := F) tab i) (rowHi (F := F) tab i)) ∗ owns (c : Thread nD τ) arg15 fullShare (sum1 tab idc wh fj (topS top) (rowF fi i) (rowI (F := F) ids i) (rowLo (F := F) tab i) (rowHi (F := F) tab i)))
            -∗ K ⟨BitVec.ofNat 32 (i 0).val, topS top, rowF fi i, rowI (F := F) ids i, rowLo (F := F) tab i, rowHi (F := F) tab i⟩))
      ⊢ wp frame (wpE (defs₀ (F := F)) Variants.none c none) E (do
  let v3 : Elt F .f32 ← smemLoad arg16 (Rect.unit (s := S1x1) ![0, 0] S1x1.size inb_S1x1_S1x1_0_0) numel1_S1x1 rfl
  let v6 : Vec F S256x1 .f32 ← Prog.lift (.load arg10 (Rect.unit (s := S2048x1) (k0_off1 i) S256x1.size (k0_off1_inb i)).toLoadRect (View.loadsAt_vmem h_S256x1))
  let v9 : Vec F S256x1 .i32 ← Prog.lift (.load arg12 (Rect.unit (s := S2048x1) (k0_off1 i) S256x1.size (k0_off1_inb i)).toLoadRect (View.loadsAt_vmem h_S256x1))
  let v12 : Elt F .i32 ← smemLoad arg1 (Rect.unit (s := S2048) (k0_off2 i) S1.size (k0_off2_inb i)) numel1_S1 rfl
  let v17 : Elt F .i32 ← smemLoad arg1 (Rect.unit (s := S2048) (k0_off3 i) S1.size (k0_off3_inb i)) numel1_S1 rfl
  let v19 : Vec F S256x512 .f32 ← Prog.lift (.load arg14 (Rect.unit (s := S256x512) ![0, 0] S256x512.size inb_S256x512_S256x512_0_0).toLoadRect (View.loadsAt_vmem h_S256x512))
  Prog.lift (.store arg14 (Rect.unit (s := S256x512) ![0, 0] S256x512.size inb_S256x512_S256x512_0_0) (k0_pay19 (F := F)) Finset.univ (View.stores_vmem_bits_univ h_S256x512 rfl) (.inl rfl))
  let v23 : Vec F S256x1 .f32 ← Prog.lift (.load arg15 (Rect.unit (s := S256x1) ![0, 0] S256x1.size inb_S256x1_S256x1_0_0).toLoadRect (View.loadsAt_vmem h_S256x1))
  Prog.lift (.store arg15 (Rect.unit (s := S256x1) ![0, 0] S256x1.size inb_S256x1_S256x1_0_0) (k0_pay20 (F := F)) Finset.univ (View.stores_vmem_bits_univ h_S256x1 rfl) (.inl rfl))
  colStep 0 inb_S2048_S1_0 inb_S2048_S1_255 inb_S1x2048_S1x256_0_0 inb_S2048x512_S256x512_0_0 arg1 arg7 arg9 arg11 arg14 arg15 v3 v6 v9 v12 v17 fun _ => pure ⟨BitVec.ofNat 32 (i 0).val, v3, v6, v9, v12, v17⟩) K := by
  iintro ⟨H1, H7, H9, H10, H11, H12, H16, ⟨%d14, H14⟩, ⟨%d15, H15⟩, Hk⟩
  iapply (word_wp c arg16 harg16)
  isplitl [H16]; · iexact H16
  iintro H16
  iapply (load_wp c arg10 harg10)
  isplitl [H10]; · iexact H10
  iintro H10
  iapply (load_wp c arg12 harg12)
  isplitl [H12]; · iexact H12
  iintro H12
  iapply (word_wp c arg1 harg1)
  isplitl [H1]; · iexact H1
  iintro H1
  iapply (word_wp c arg1 harg1)
  isplitl [H1]; · iexact H1
  iintro H1
  iapply (load_full_wp c arg14 harg14)
  isplitl [H14]; · iexact H14
  iintro H14
  iapply (store_wp c arg14 harg14)
  isplitl [H14]; · iexact H14
  iintro H14
  iapply (load_full_wp c arg15 harg15)
  isplitl [H15]; · iexact H15
  iintro H15
  iapply (store_wp c arg15 harg15)
  isplitl [H15]; · iexact H15
  iintro H15
  iapply (colStep_wp c 0 inb_S2048_S1_0 inb_S2048_S1_255 inb_S1x2048_S1x256_0_0 inb_S2048x512_S256x512_0_0 arg1 harg1 arg7 harg7 arg9 harg9 arg11 harg11 arg14 harg14 arg15 harg15)
  isplitl [H1]; · iexact H1
  isplitl [H7]; · iexact H7
  isplitl [H9]; · iexact H9
  isplitl [H11]; · iexact H11
  isplitl [H14]; · iexact H14
  isplitl [H15]; · iexact H15
  iintro ⟨H1, H7, H9, H11, H14, H15⟩
  sl_step
  iapply Hk
  isplitl [H1]; · iexact H1
  isplitl [H7]; · iexact H7
  isplitl [H9]; · iexact H9
  isplitl [H10]; · iexact H10
  isplitl [H11]; · iexact H11
  isplitl [H12]; · iexact H12
  isplitl [H16]; · iexact H16
  isplitl [H14]; · iexact H14
  iexact H15

/-- The third part of the body: blocks two to six, and the test of the seventh. -/
def part3 (i : grid0.Coords) (arg1 : Memref sig .tc .smem S2048 .i32) (harg1 : arg1.IsWhole) (arg2 : Memref sig .tc .smem S1x1025 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x1025 .f32) (harg5 : arg5.IsWhole) (arg6 : Memref sig .tc .vmem S512x1 .f32) (harg6 : arg6.IsWhole) (arg7 : Memref sig .tc .vmem S1x2048 .i32) (harg7 : arg7.IsWhole) (arg8 : Memref sig .tc .vmem S256x512 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S1x2048 .f32) (harg11 : arg11.IsWhole) (arg12 : Memref sig .tc .vmem S2048x1 .i32) (harg12 : arg12.IsWhole) (arg13 : Memref sig .tc .vmem S2048x1 .i32) (harg13 : arg13.IsWhole) (arg14 : Memref sig .tc .vmem S256x512 .f32) (harg14 : arg14.IsWhole) (arg15 : Memref sig .tc .vmem S256x1 .f32) (harg15 : arg15.IsWhole) (arg16 : Memref sig .tc .smem S1x1 .f32) (harg16 : arg16.IsWhole) (v3 : Elt F .f32) (v6 : Vec F S256x1 .f32) (v9 : Vec F S256x1 .i32) (v12 : Elt F .i32) (v17 : Elt F .i32) :
    Prog (TpuEff nD τ sig (Elt F) Λ₀ .tc) (Σ' (v69 : BitVec 1), BitVec 1) :=
  colStep 256 inb_S2048_S1_256 inb_S2048_S1_511 inb_S1x2048_S1x256_0_256 inb_S2048x512_S256x512_256_0 arg1 arg7 arg9 arg11 arg14 arg15 v3 v6 v9 v12 v17 fun _ =>
  colStep 512 inb_S2048_S1_512 inb_S2048_S1_767 inb_S1x2048_S1x256_0_512 inb_S2048x512_S256x512_512_0 arg1 arg7 arg9 arg11 arg14 arg15 v3 v6 v9 v12 v17 fun _ =>
  colStep 768 inb_S2048_S1_768 inb_S2048_S1_1023 inb_S1x2048_S1x256_0_768 inb_S2048x512_S256x512_768_0 arg1 arg7 arg9 arg11 arg14 arg15 v3 v6 v9 v12 v17 fun _ =>
  colStep 1024 inb_S2048_S1_1024 inb_S2048_S1_1279 inb_S1x2048_S1x256_0_1024 inb_S2048x512_S256x512_1024_0 arg1 arg7 arg9 arg11 arg14 arg15 v3 v6 v9 v12 v17 fun _ =>
  colStep 1280 inb_S2048_S1_1280 inb_S2048_S1_1535 inb_S1x2048_S1x256_0_1280 inb_S2048x512_S256x512_1280_0 arg1 arg7 arg9 arg11 arg14 arg15 v3 v6 v9 v12 v17 fun _ => do
  let v68 : Elt F .i32 ← smemLoad arg1 (Rect.unit (s := S2048) ![1536] S1.size inb_S2048_S1_1536) numel1_S1 rfl
  let v70 : Elt F .i32 ← smemLoad arg1 (Rect.unit (s := S2048) ![1791] S1.size inb_S2048_S1_1791) numel1_S1 rfl
  pure ⟨Scalar.cmpi .sle v68 v17, Scalar.cmpi .sge v70 v12⟩

/-- It is the printed one. -/
theorem part3_eq : k0_part3 (F := F) = part3 (F := F) := rfl

/-- The triple of the third part. -/
theorem part3_wp (c : Dev nD) (i : grid0.Coords) (arg1 : Memref sig .tc .smem S2048 .i32) (harg1 : arg1.IsWhole) (arg2 : Memref sig .tc .smem S1x1025 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x1025 .f32) (harg5 : arg5.IsWhole) (arg6 : Memref sig .tc .vmem S512x1 .f32) (harg6 : arg6.IsWhole) (arg7 : Memref sig .tc .vmem S1x2048 .i32) (harg7 : arg7.IsWhole) (arg8 : Memref sig .tc .vmem S256x512 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S1x2048 .f32) (harg11 : arg11.IsWhole) (arg12 : Memref sig .tc .vmem S2048x1 .i32) (harg12 : arg12.IsWhole) (arg13 : Memref sig .tc .vmem S2048x1 .i32) (harg13 : arg13.IsWhole) (arg14 : Memref sig .tc .vmem S256x512 .f32) (harg14 : arg14.IsWhole) (arg15 : Memref sig .tc .vmem S256x1 .f32) (harg15 : arg15.IsWhole) (arg16 : Memref sig .tc .smem S1x1 .f32) (harg16 : arg16.IsWhole)
    (tab : Vec F S2048 .i32) (idc : Vec F S1x2048 .i32) (wh : Vec F S2048x512 .bf16) (fj : Vec F S1x2048 .f32) (v3 : Elt F .f32) (v6 : Vec F S256x1 .f32) (v9 : Vec F S256x1 .i32) (v12 v17 : Elt F .i32) (acc : Vec F S256x512 .f32) (s : Vec F S256x1 .f32)
    (E : Set ℕ) (K : (Σ' (v69 : BitVec 1), BitVec 1) → sProp 𝕄) :
    iprop(owns (c : Thread nD τ) arg1 fullShare tab ∗ owns (c : Thread nD τ) arg7 fullShare idc ∗ owns (c : Thread nD τ) arg9 fullShare wh ∗ owns (c : Thread nD τ) arg11 fullShare fj ∗ owns (c : Thread nD τ) arg14 fullShare acc ∗ owns (c : Thread nD τ) arg15 fullShare s
        ∗ (iprop(owns (c : Thread nD τ) arg1 fullShare tab ∗ owns (c : Thread nD τ) arg7 fullShare idc ∗ owns (c : Thread nD τ) arg9 fullShare wh ∗ owns (c : Thread nD τ) arg11 fullShare fj ∗ owns (c : Thread nD τ) arg14 fullShare (acc6 tab idc wh fj v3 v6 v9 v12 v17 acc) ∗ owns (c : Thread nD τ) arg15 fullShare (sum6 tab idc wh fj v3 v6 v9 v12 v17 s))
            -∗ K ⟨Scalar.cmpi .sle (word tab 1536 inb_S2048_S1_1536) v17, Scalar.cmpi .sge (word tab 1791 inb_S2048_S1_1791) v12⟩))
      ⊢ wp frame (wpE (defs₀ (F := F)) Variants.none c none) E (part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v6 v9 v12 v17) K := by
  unfold part3
  iintro ⟨H1, H7, H9, H11, H14, H15, Hk⟩
  iapply (colStep_wp c 256 inb_S2048_S1_256 inb_S2048_S1_511 inb_S1x2048_S1x256_0_256 inb_S2048x512_S256x512_256_0 arg1 harg1 arg7 harg7 arg9 harg9 arg11 harg11 arg14 harg14 arg15 harg15)
  isplitl [H1]; · iexact H1
  isplitl [H7]; · iexact H7
  isplitl [H9]; · iexact H9
  isplitl [H11]; · iexact H11
  isplitl [H14]; · iexact H14
  isplitl [H15]; · iexact H15
  iintro ⟨H1, H7, H9, H11, H14, H15⟩
  iapply (colStep_wp c 512 inb_S2048_S1_512 inb_S2048_S1_767 inb_S1x2048_S1x256_0_512 inb_S2048x512_S256x512_512_0 arg1 harg1 arg7 harg7 arg9 harg9 arg11 harg11 arg14 harg14 arg15 harg15)
  isplitl [H1]; · iexact H1
  isplitl [H7]; · iexact H7
  isplitl [H9]; · iexact H9
  isplitl [H11]; · iexact H11
  isplitl [H14]; · iexact H14
  isplitl [H15]; · iexact H15
  iintro ⟨H1, H7, H9, H11, H14, H15⟩
  iapply (colStep_wp c 768 inb_S2048_S1_768 inb_S2048_S1_1023 inb_S1x2048_S1x256_0_768 inb_S2048x512_S256x512_768_0 arg1 harg1 arg7 harg7 arg9 harg9 arg11 harg11 arg14 harg14 arg15 harg15)
  isplitl [H1]; · iexact H1
  isplitl [H7]; · iexact H7
  isplitl [H9]; · iexact H9
  isplitl [H11]; · iexact H11
  isplitl [H14]; · iexact H14
  isplitl [H15]; · iexact H15
  iintro ⟨H1, H7, H9, H11, H14, H15⟩
  iapply (colStep_wp c 1024 inb_S2048_S1_1024 inb_S2048_S1_1279 inb_S1x2048_S1x256_0_1024 inb_S2048x512_S256x512_1024_0 arg1 harg1 arg7 harg7 arg9 harg9 arg11 harg11 arg14 harg14 arg15 harg15)
  isplitl [H1]; · iexact H1
  isplitl [H7]; · iexact H7
  isplitl [H9]; · iexact H9
  isplitl [H11]; · iexact H11
  isplitl [H14]; · iexact H14
  isplitl [H15]; · iexact H15
  iintro ⟨H1, H7, H9, H11, H14, H15⟩
  iapply (colStep_wp c 1280 inb_S2048_S1_1280 inb_S2048_S1_1535 inb_S1x2048_S1x256_0_1280 inb_S2048x512_S256x512_1280_0 arg1 harg1 arg7 harg7 arg9 harg9 arg11 harg11 arg14 harg14 arg15 harg15)
  isplitl [H1]; · iexact H1
  isplitl [H7]; · iexact H7
  isplitl [H9]; · iexact H9
  isplitl [H11]; · iexact H11
  isplitl [H14]; · iexact H14
  isplitl [H15]; · iexact H15
  iintro ⟨H1, H7, H9, H11, H14, H15⟩
  iapply (word_wp c arg1 harg1)
  isplitl [H1]; · iexact H1
  iintro H1
  iapply (word_wp c arg1 harg1)
  isplitl [H1]; · iexact H1
  iintro H1
  sl_step
  iapply Hk
  isplitl [H1]; · iexact H1
  isplitl [H7]; · iexact H7
  isplitl [H9]; · iexact H9
  isplitl [H11]; · iexact H11
  isplitl [H14]; · iexact H14
  iexact H15

/-- The body: the second and third parts, the last two blocks, the division and the store of the point's rows. -/
def whole (i : grid0.Coords) (arg1 : Memref sig .tc .smem S2048 .i32) (harg1 : arg1.IsWhole) (arg2 : Memref sig .tc .smem S1x1025 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x1025 .f32) (harg5 : arg5.IsWhole) (arg6 : Memref sig .tc .vmem S512x1 .f32) (harg6 : arg6.IsWhole) (arg7 : Memref sig .tc .vmem S1x2048 .i32) (harg7 : arg7.IsWhole) (arg8 : Memref sig .tc .vmem S256x512 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S1x2048 .f32) (harg11 : arg11.IsWhole) (arg12 : Memref sig .tc .vmem S2048x1 .i32) (harg12 : arg12.IsWhole) (arg13 : Memref sig .tc .vmem S2048x1 .i32) (harg13 : arg13.IsWhole) (arg14 : Memref sig .tc .vmem S256x512 .f32) (harg14 : arg14.IsWhole) (arg15 : Memref sig .tc .vmem S256x1 .f32) (harg15 : arg15.IsWhole) (arg16 : Memref sig .tc .smem S1x1 .f32) (harg16 : arg16.IsWhole) :
    Prog (TpuEff nD τ sig (Elt F) Λ₀ .tc) PUnit := do
  let ⟨arg0, v3, v6, v9, v12, v17⟩ : (Σ' (arg0 : BitVec 32) (v3 : Elt F .f32) (v6 : Vec F S256x1 .f32) (v9 : Vec F S256x1 .i32) (v12 : Elt F .i32), Elt F .i32) ← part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  let ⟨v69, v71⟩ : Σ' (v69 : BitVec 1), BitVec 1 ← part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v6 v9 v12 v17
  blockStep 1536 inb_S1x2048_S1x256_0_1536 inb_S2048x512_S256x512_1536_0 arg7 arg9 arg11 arg14 arg15 v3 v6 v9 (Scalar.cmpi .ne (Scalar.extui (Scalar.andi v69 v71) : BitVec 32) 0#32) fun _ =>
  colStep 1792 inb_S2048_S1_1792 inb_S2048_S1_2047 inb_S1x2048_S1x256_0_1792 inb_S2048x512_S256x512_1792_0 arg1 arg7 arg9 arg11 arg14 arg15 v3 v6 v9 v12 v17 fun _ => do
  let v84 : Vec F S256x1 .i32 ← Prog.lift (.load arg13 (Rect.unit (s := S2048x1) (k0_off4 i) S256x1.size (k0_off4_inb i)).toLoadRect (View.loadsAt_vmem h_S256x1))
  let v87 : Vec F S256x512 .f32 ← Prog.lift (.load arg14 (Rect.unit (s := S256x512) ![0, 0] S256x512.size inb_S256x512_S256x512_0_0).toLoadRect (View.loadsAt_vmem h_S256x512))
  let v88 : Vec F S256x1 .f32 ← Prog.lift (.load arg15 (Rect.unit (s := S256x1) ![0, 0] S256x1.size inb_S256x1_S256x1_0_0).toLoadRect (View.loadsAt_vmem h_S256x1))
  let v95 : Vec F S256x512 .f32 ← Prog.lift (.load arg8 (Rect.unit (s := S256x512) ![0, 0] S256x512.size inb_S256x512_S256x512_0_0).toLoadRect (View.loadsAt_vmem h_S256x512))
  Prog.lift (.store arg8 (Rect.unit (s := S256x512) ![0, 0] S256x512.size inb_S256x512_S256x512_0_0) (k0_pay7 v84 v87 v88) Finset.univ (View.stores_vmem_bits_univ h_S256x512 rfl) (.inl rfl))
  pure ⟨⟩

/-- It is the printed one. -/
theorem whole_eq : cc0__egat_kernel (F := F) = whole (F := F) := rfl

/-- What the body stores: the accumulated rows over their sums of weights, zero at the rows alone in their segment. -/
def outV (i : grid0.Coords) (tab : Vec F S2048 .i32) (idc : Vec F S1x2048 .i32) (wh : Vec F S2048x512 .bf16) (fi : Vec F S2048x1 .f32) (fj : Vec F S1x2048 .f32) (ids : Vec F S2048x1 .i32) (al : Vec F S2048x1 .i32) (top : Vec F S1x1 .f32) : Vec F S256x512 .f32 :=
  k0_pay7 (rowA (F := F) al i) (acc8 tab idc wh fj (topS top) (rowF fi i) (rowI (F := F) ids i) (rowLo (F := F) tab i) (rowHi (F := F) tab i) (acc6 tab idc wh fj (topS top) (rowF fi i) (rowI (F := F) ids i) (rowLo (F := F) tab i) (rowHi (F := F) tab i) (acc1 tab idc wh fj (topS top) (rowF fi i) (rowI (F := F) ids i) (rowLo (F := F) tab i) (rowHi (F := F) tab i)))) (sum8 tab idc wh fj (topS top) (rowF fi i) (rowI (F := F) ids i) (rowLo (F := F) tab i) (rowHi (F := F) tab i) (sum6 tab idc wh fj (topS top) (rowF fi i) (rowI (F := F) ids i) (rowLo (F := F) tab i) (rowHi (F := F) tab i) (sum1 tab idc wh fj (topS top) (rowF fi i) (rowI (F := F) ids i) (rowLo (F := F) tab i) (rowHi (F := F) tab i))))

/-- The body after the prologue, from the filled arrays. -/
theorem rest_wp (c : Dev nD) (i : grid0.Coords) (arg1 : Memref sig .tc .smem S2048 .i32) (harg1 : arg1.IsWhole) (arg2 : Memref sig .tc .smem S1x1025 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x1025 .f32) (harg5 : arg5.IsWhole) (arg6 : Memref sig .tc .vmem S512x1 .f32) (harg6 : arg6.IsWhole) (arg7 : Memref sig .tc .vmem S1x2048 .i32) (harg7 : arg7.IsWhole) (arg8 : Memref sig .tc .vmem S256x512 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S1x2048 .f32) (harg11 : arg11.IsWhole) (arg12 : Memref sig .tc .vmem S2048x1 .i32) (harg12 : arg12.IsWhole) (arg13 : Memref sig .tc .vmem S2048x1 .i32) (harg13 : arg13.IsWhole) (arg14 : Memref sig .tc .vmem S256x512 .f32) (harg14 : arg14.IsWhole) (arg15 : Memref sig .tc .vmem S256x1 .f32) (harg15 : arg15.IsWhole) (arg16 : Memref sig .tc .smem S1x1 .f32) (harg16 : arg16.IsWhole)
    (tab : Vec F S2048 .i32) (idc : Vec F S1x2048 .i32) (wh : Vec F S2048x512 .bf16) (fi : Vec F S2048x1 .f32) (fj : Vec F S1x2048 .f32) (ids : Vec F S2048x1 .i32) (al : Vec F S2048x1 .i32) (top : Vec F S1x1 .f32)
    (E : Set ℕ) (K : PUnit → sProp 𝕄) :
    iprop(owns (c : Thread nD τ) arg1 fullShare tab ∗ owns (c : Thread nD τ) arg7 fullShare idc ∗ (∃ d, owns (c : Thread nD τ) arg8 fullShare d) ∗ owns (c : Thread nD τ) arg9 fullShare wh ∗ owns (c : Thread nD τ) arg10 fullShare fi ∗ owns (c : Thread nD τ) arg11 fullShare fj ∗ owns (c : Thread nD τ) arg12 fullShare ids ∗ owns (c : Thread nD τ) arg13 fullShare al ∗ (∃ d, owns (c : Thread nD τ) arg14 fullShare d) ∗ (∃ d, owns (c : Thread nD τ) arg15 fullShare d) ∗ owns (c : Thread nD τ) arg16 fullShare top
        ∗ (iprop(owns (c : Thread nD τ) arg1 fullShare tab ∗ owns (c : Thread nD τ) arg7 fullShare idc ∗ owns (c : Thread nD τ) arg8 fullShare (outV i tab idc wh fi fj ids al top) ∗ owns (c : Thread nD τ) arg9 fullShare wh ∗ owns (c : Thread nD τ) arg10 fullShare fi ∗ owns (c : Thread nD τ) arg11 fullShare fj ∗ owns (c : Thread nD τ) arg12 fullShare ids ∗ owns (c : Thread nD τ) arg13 fullShare al ∗ (∃ d, owns (c : Thread nD τ) arg14 fullShare d) ∗ (∃ d, owns (c : Thread nD τ) arg15 fullShare d) ∗ owns (c : Thread nD τ) arg16 fullShare top)
            -∗ K ⟨⟩))
      ⊢ wp frame (wpE (defs₀ (F := F)) Variants.none c none) E ((do
  let v3 : Elt F .f32 ← smemLoad arg16 (Rect.unit (s := S1x1) ![0, 0] S1x1.size inb_S1x1_S1x1_0_0) numel1_S1x1 rfl
  let v6 : Vec F S256x1 .f32 ← Prog.lift (.load arg10 (Rect.unit (s := S2048x1) (k0_off1 i) S256x1.size (k0_off1_inb i)).toLoadRect (View.loadsAt_vmem h_S256x1))
  let v9 : Vec F S256x1 .i32 ← Prog.lift (.load arg12 (Rect.unit (s := S2048x1) (k0_off1 i) S256x1.size (k0_off1_inb i)).toLoadRect (View.loadsAt_vmem h_S256x1))
  let v12 : Elt F .i32 ← smemLoad arg1 (Rect.unit (s := S2048) (k0_off2 i) S1.size (k0_off2_inb i)) numel1_S1 rfl
  let v17 : Elt F .i32 ← smemLoad arg1 (Rect.unit (s := S2048) (k0_off3 i) S1.size (k0_off3_inb i)) numel1_S1 rfl
  let v19 : Vec F S256x512 .f32 ← Prog.lift (.load arg14 (Rect.unit (s := S256x512) ![0, 0] S256x512.size inb_S256x512_S256x512_0_0).toLoadRect (View.loadsAt_vmem h_S256x512))
  Prog.lift (.store arg14 (Rect.unit (s := S256x512) ![0, 0] S256x512.size inb_S256x512_S256x512_0_0) (k0_pay19 (F := F)) Finset.univ (View.stores_vmem_bits_univ h_S256x512 rfl) (.inl rfl))
  let v23 : Vec F S256x1 .f32 ← Prog.lift (.load arg15 (Rect.unit (s := S256x1) ![0, 0] S256x1.size inb_S256x1_S256x1_0_0).toLoadRect (View.loadsAt_vmem h_S256x1))
  Prog.lift (.store arg15 (Rect.unit (s := S256x1) ![0, 0] S256x1.size inb_S256x1_S256x1_0_0) (k0_pay20 (F := F)) Finset.univ (View.stores_vmem_bits_univ h_S256x1 rfl) (.inl rfl))
  colStep 0 inb_S2048_S1_0 inb_S2048_S1_255 inb_S1x2048_S1x256_0_0 inb_S2048x512_S256x512_0_0 arg1 arg7 arg9 arg11 arg14 arg15 v3 v6 v9 v12 v17 fun _ => pure ⟨BitVec.ofNat 32 (i 0).val, v3, v6, v9, v12, v17⟩) : Prog (TpuEff nD τ sig (Elt F) Λ₀ .tc) ((Σ' (arg0 : BitVec 32) (v3 : Elt F .f32) (v6 : Vec F S256x1 .f32) (v9 : Vec F S256x1 .i32) (v12 : Elt F .i32), Elt F .i32)))
        (fun x => wp frame (wpE (defs₀ (F := F)) Variants.none c none) E (match x with
          | ⟨arg0, v3, v6, v9, v12, v17⟩ => do
  let ⟨v69, v71⟩ : Σ' (v69 : BitVec 1), BitVec 1 ← part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v6 v9 v12 v17
  blockStep 1536 inb_S1x2048_S1x256_0_1536 inb_S2048x512_S256x512_1536_0 arg7 arg9 arg11 arg14 arg15 v3 v6 v9 (Scalar.cmpi .ne (Scalar.extui (Scalar.andi v69 v71) : BitVec 32) 0#32) fun _ =>
  colStep 1792 inb_S2048_S1_1792 inb_S2048_S1_2047 inb_S1x2048_S1x256_0_1792 inb_S2048x512_S256x512_1792_0 arg1 arg7 arg9 arg11 arg14 arg15 v3 v6 v9 v12 v17 fun _ => do
  let v84 : Vec F S256x1 .i32 ← Prog.lift (.load arg13 (Rect.unit (s := S2048x1) (k0_off4 i) S256x1.size (k0_off4_inb i)).toLoadRect (View.loadsAt_vmem h_S256x1))
  let v87 : Vec F S256x512 .f32 ← Prog.lift (.load arg14 (Rect.unit (s := S256x512) ![0, 0] S256x512.size inb_S256x512_S256x512_0_0).toLoadRect (View.loadsAt_vmem h_S256x512))
  let v88 : Vec F S256x1 .f32 ← Prog.lift (.load arg15 (Rect.unit (s := S256x1) ![0, 0] S256x1.size inb_S256x1_S256x1_0_0).toLoadRect (View.loadsAt_vmem h_S256x1))
  let v95 : Vec F S256x512 .f32 ← Prog.lift (.load arg8 (Rect.unit (s := S256x512) ![0, 0] S256x512.size inb_S256x512_S256x512_0_0).toLoadRect (View.loadsAt_vmem h_S256x512))
  Prog.lift (.store arg8 (Rect.unit (s := S256x512) ![0, 0] S256x512.size inb_S256x512_S256x512_0_0) (k0_pay7 v84 v87 v88) Finset.univ (View.stores_vmem_bits_univ h_S256x512 rfl) (.inl rfl))
  pure ⟨⟩) K) := by
  iintro ⟨H1, H7, ⟨%d8, H8⟩, H9, H10, H11, H12, H13, H14, H15, H16, Hk⟩
  iapply (part2_rest c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 tab idc wh fi fj ids al top)
  isplitl [H1]; · iexact H1
  isplitl [H7]; · iexact H7
  isplitl [H9]; · iexact H9
  isplitl [H10]; · iexact H10
  isplitl [H11]; · iexact H11
  isplitl [H12]; · iexact H12
  isplitl [H16]; · iexact H16
  isplitl [H14]; · iexact H14
  isplitl [H15]; · iexact H15
  iintro ⟨H1, H7, H9, H10, H11, H12, H16, H14, H15⟩
  rw [wp_bind]
  iapply (part3_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 tab idc wh fj)
  isplitl [H1]; · iexact H1
  isplitl [H7]; · iexact H7
  isplitl [H9]; · iexact H9
  isplitl [H11]; · iexact H11
  isplitl [H14]; · iexact H14
  isplitl [H15]; · iexact H15
  iintro ⟨H1, H7, H9, H11, H14, H15⟩
  iapply (blockStep_wp c 1536 inb_S1x2048_S1x256_0_1536 inb_S2048x512_S256x512_1536_0 arg7 harg7 arg9 harg9 arg11 harg11 arg14 harg14 arg15 harg15)
  isplitl [H7]; · iexact H7
  isplitl [H9]; · iexact H9
  isplitl [H11]; · iexact H11
  isplitl [H14]; · iexact H14
  isplitl [H15]; · iexact H15
  iintro ⟨H7, H9, H11, H14, H15⟩
  iapply (colStep_wp c 1792 inb_S2048_S1_1792 inb_S2048_S1_2047 inb_S1x2048_S1x256_0_1792 inb_S2048x512_S256x512_1792_0 arg1 harg1 arg7 harg7 arg9 harg9 arg11 harg11 arg14 harg14 arg15 harg15)
  isplitl [H1]; · iexact H1
  isplitl [H7]; · iexact H7
  isplitl [H9]; · iexact H9
  isplitl [H11]; · iexact H11
  isplitl [H14]; · iexact H14
  isplitl [H15]; · iexact H15
  iintro ⟨H1, H7, H9, H11, H14, H15⟩
  iapply (load_wp c arg13 harg13)
  isplitl [H13]; · iexact H13
  iintro H13
  iapply (load_full_wp c arg14 harg14)
  isplitl [H14]; · iexact H14
  iintro H14
  iapply (load_full_wp c arg15 harg15)
  isplitl [H15]; · iexact H15
  iintro H15
  iapply (load_full_wp c arg8 harg8)
  isplitl [H8]; · iexact H8
  iintro H8
  iapply (store_wp c arg8 harg8)
  isplitl [H8]; · iexact H8
  iintro H8
  sl_step
  iapply Hk
  isplitl [H1]; · iexact H1
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iexact H16

/-- The body at the first point, from scratch arrays at anything. -/
theorem whole_first (c : Dev nD) (i : grid0.Coords) (arg1 : Memref sig .tc .smem S2048 .i32) (harg1 : arg1.IsWhole) (arg2 : Memref sig .tc .smem S1x1025 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x1025 .f32) (harg5 : arg5.IsWhole) (arg6 : Memref sig .tc .vmem S512x1 .f32) (harg6 : arg6.IsWhole) (arg7 : Memref sig .tc .vmem S1x2048 .i32) (harg7 : arg7.IsWhole) (arg8 : Memref sig .tc .vmem S256x512 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S1x2048 .f32) (harg11 : arg11.IsWhole) (arg12 : Memref sig .tc .vmem S2048x1 .i32) (harg12 : arg12.IsWhole) (arg13 : Memref sig .tc .vmem S2048x1 .i32) (harg13 : arg13.IsWhole) (arg14 : Memref sig .tc .vmem S256x512 .f32) (harg14 : arg14.IsWhole) (arg15 : Memref sig .tc .vmem S256x1 .f32) (harg15 : arg15.IsWhole) (arg16 : Memref sig .tc .smem S1x1 .f32) (harg16 : arg16.IsWhole) (hi : isFirst i)
    (tab : Vec F S2048 .i32) (attS : Vec F S1x1025 .f32) (h : Vec F S2048x512 .f32) (W : Vec F S512x512 .f32) (attV : Vec F S1x1025 .f32) (ai : Vec F S512x1 .f32) (idc : Vec F S1x2048 .i32)
    (E : Set ℕ) (K : PUnit → sProp 𝕄) :
    iprop(owns (c : Thread nD τ) arg1 fullShare tab ∗ owns (c : Thread nD τ) arg2 fullShare attS ∗ owns (c : Thread nD τ) arg3 fullShare h ∗ owns (c : Thread nD τ) arg4 fullShare W ∗ owns (c : Thread nD τ) arg5 fullShare attV ∗ owns (c : Thread nD τ) arg6 fullShare ai ∗ owns (c : Thread nD τ) arg7 fullShare idc ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare tab ∗ owns (c : Thread nD τ) arg2 fullShare attS ∗ owns (c : Thread nD τ) arg3 fullShare h ∗ owns (c : Thread nD τ) arg4 fullShare W ∗ owns (c : Thread nD τ) arg5 fullShare attV ∗ owns (c : Thread nD τ) arg6 fullShare ai ∗ owns (c : Thread nD τ) arg7 fullShare idc ∗ owns (c : Thread nD τ) arg8 fullShare (outV i tab idc (whV h W) (fiV attS h W ai) (fjV h W attV) (idV (F := F) idc) (aloneV (F := F) idc) (topV attS h W attV ai)) ∗ owns (c : Thread nD τ) arg9 fullShare (whV h W) ∗ owns (c : Thread nD τ) arg10 fullShare (fiV attS h W ai) ∗ owns (c : Thread nD τ) arg11 fullShare (fjV h W attV) ∗ owns (c : Thread nD τ) arg12 fullShare (idV (F := F) idc) ∗ owns (c : Thread nD τ) arg13 fullShare (aloneV (F := F) idc) ∗ (∃ d, owns (c : Thread nD τ) arg14 fullShare d) ∗ (∃ d, owns (c : Thread nD τ) arg15 fullShare d) ∗ owns (c : Thread nD τ) arg16 fullShare (topV attS h W attV ai)) -∗ K ⟨⟩))
      ⊢ wp frame (wpE (defs₀ (F := F)) Variants.none c none) E (cc0__egat_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [whole_eq]
  unfold whole
  rw [wp_bind]
  unfold part2
  iintro ⟨H1, H2, H3, H4, H5, H6, H7, H8, H9, H10, H11, H12, H13, H14, H15, H16, Hk⟩
  iapply (prolog_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hi attS h W attV ai idc)
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H13]; · iexact H13
  isplitl [H16]; · iexact H16
  iintro ⟨H2, H3, H4, H5, H6, H7, H9, H10, H11, H12, H13, H16⟩
  iapply (rest_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 tab idc (whV h W) (fiV attS h W ai) (fjV h W attV) (idV (F := F) idc) (aloneV (F := F) idc) (topV attS h W attV ai))
  isplitl [H1]; · iexact H1
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H7, H8, H9, H10, H11, H12, H13, H14, H15, H16⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body at the later points, from the scratch arrays the first point filled. -/
theorem whole_later (c : Dev nD) (i : grid0.Coords) (arg1 : Memref sig .tc .smem S2048 .i32) (harg1 : arg1.IsWhole) (arg2 : Memref sig .tc .smem S1x1025 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S1x1025 .f32) (harg5 : arg5.IsWhole) (arg6 : Memref sig .tc .vmem S512x1 .f32) (harg6 : arg6.IsWhole) (arg7 : Memref sig .tc .vmem S1x2048 .i32) (harg7 : arg7.IsWhole) (arg8 : Memref sig .tc .vmem S256x512 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S1x2048 .f32) (harg11 : arg11.IsWhole) (arg12 : Memref sig .tc .vmem S2048x1 .i32) (harg12 : arg12.IsWhole) (arg13 : Memref sig .tc .vmem S2048x1 .i32) (harg13 : arg13.IsWhole) (arg14 : Memref sig .tc .vmem S256x512 .f32) (harg14 : arg14.IsWhole) (arg15 : Memref sig .tc .vmem S256x1 .f32) (harg15 : arg15.IsWhole) (arg16 : Memref sig .tc .smem S1x1 .f32) (harg16 : arg16.IsWhole) (hi : ¬ isFirst i)
    (tab : Vec F S2048 .i32) (attS : Vec F S1x1025 .f32) (h : Vec F S2048x512 .f32) (W : Vec F S512x512 .f32) (attV : Vec F S1x1025 .f32) (ai : Vec F S512x1 .f32) (idc : Vec F S1x2048 .i32)
    (E : Set ℕ) (K : PUnit → sProp 𝕄) :
    iprop(owns (c : Thread nD τ) arg1 fullShare tab ∗ owns (c : Thread nD τ) arg2 fullShare attS ∗ owns (c : Thread nD τ) arg3 fullShare h ∗ owns (c : Thread nD τ) arg4 fullShare W ∗ owns (c : Thread nD τ) arg5 fullShare attV ∗ owns (c : Thread nD τ) arg6 fullShare ai ∗ owns (c : Thread nD τ) arg7 fullShare idc ∗ (∃ d, owns (c : Thread nD τ) arg8 fullShare d) ∗ owns (c : Thread nD τ) arg9 fullShare (whV h W) ∗ owns (c : Thread nD τ) arg10 fullShare (fiV attS h W ai) ∗ owns (c : Thread nD τ) arg11 fullShare (fjV h W attV) ∗ owns (c : Thread nD τ) arg12 fullShare (idV (F := F) idc) ∗ owns (c : Thread nD τ) arg13 fullShare (aloneV (F := F) idc) ∗ (∃ d, owns (c : Thread nD τ) arg14 fullShare d) ∗ (∃ d, owns (c : Thread nD τ) arg15 fullShare d) ∗ owns (c : Thread nD τ) arg16 fullShare (topV attS h W attV ai)
        ∗ (iprop(owns (c : Thread nD τ) arg1 fullShare tab ∗ owns (c : Thread nD τ) arg2 fullShare attS ∗ owns (c : Thread nD τ) arg3 fullShare h ∗ owns (c : Thread nD τ) arg4 fullShare W ∗ owns (c : Thread nD τ) arg5 fullShare attV ∗ owns (c : Thread nD τ) arg6 fullShare ai ∗ owns (c : Thread nD τ) arg7 fullShare idc ∗ owns (c : Thread nD τ) arg8 fullShare (outV i tab idc (whV h W) (fiV attS h W ai) (fjV h W attV) (idV (F := F) idc) (aloneV (F := F) idc) (topV attS h W attV ai)) ∗ owns (c : Thread nD τ) arg9 fullShare (whV h W) ∗ owns (c : Thread nD τ) arg10 fullShare (fiV attS h W ai) ∗ owns (c : Thread nD τ) arg11 fullShare (fjV h W attV) ∗ owns (c : Thread nD τ) arg12 fullShare (idV (F := F) idc) ∗ owns (c : Thread nD τ) arg13 fullShare (aloneV (F := F) idc) ∗ (∃ d, owns (c : Thread nD τ) arg14 fullShare d) ∗ (∃ d, owns (c : Thread nD τ) arg15 fullShare d) ∗ owns (c : Thread nD τ) arg16 fullShare (topV attS h W attV ai)) -∗ K ⟨⟩))
      ⊢ wp frame (wpE (defs₀ (F := F)) Variants.none c none) E (cc0__egat_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [whole_eq]
  unfold whole
  rw [wp_bind]
  unfold part2
  iintro ⟨H1, H2, H3, H4, H5, H6, H7, H8, H9, H10, H11, H12, H13, H14, H15, H16, Hk⟩
  rw [prolog_later i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hi]
  iapply (rest_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 tab idc (whV h W) (fiV attS h W ai) (fjV h W attV) (idV (F := F) idc) (aloneV (F := F) idc) (topV attS h W attV ai))
  isplitl [H1]; · iexact H1
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H7, H8, H9, H10, H11, H12, H13, H14, H15, H16⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Cert.Proof.KI
-- ==== Proof.Run.lean ====
/-
  The run of `KernelIdeal`: the pipeline's proof data, the body at every point, the launch, the frame.
-/
module

public import proofs.«01_k».proof.Proof.Whole
public import proofs.«01_k».proof.Proof.Gen.KernelIdeal.Points
public import proofs.«01_k».proof.Proof.Gen.KernelIdeal.Launch

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks the body reads: whole arrays, the same at every point -/

/-- The block of window 0: the ids in scalar memory. -/
def tabB (c : Dev nD) : Vec F S2048 .i32 := iblk m c 0 t0_0
theorem iblk_0 (c : Dev nD) (t : Fin cfg0.N) : iblk m c 0 t = tabB m c := rfl
/-- The block of window 1: the attention weights in scalar memory. -/
def attSB (c : Dev nD) : Vec F S1x1025 .f32 := iblk m c 1 t0_0
theorem iblk_1 (c : Dev nD) (t : Fin cfg0.N) : iblk m c 1 t = attSB m c := rfl
/-- The block of window 2: the features. -/
def hB (c : Dev nD) : Vec F S2048x512 .f32 := iblk m c 2 t0_0
theorem iblk_2 (c : Dev nD) (t : Fin cfg0.N) : iblk m c 2 t = hB m c := rfl
/-- The block of window 3: the projection. -/
def WB (c : Dev nD) : Vec F S512x512 .f32 := iblk m c 3 t0_0
theorem iblk_3 (c : Dev nD) (t : Fin cfg0.N) : iblk m c 3 t = WB m c := rfl
/-- The block of window 4: the attention weights. -/
def attVB (c : Dev nD) : Vec F S1x1025 .f32 := iblk m c 4 t0_0
theorem iblk_4 (c : Dev nD) (t : Fin cfg0.N) : iblk m c 4 t = attVB m c := rfl
/-- The block of window 5: the rows' attention weights as a column. -/
def aiB (c : Dev nD) : Vec F S512x1 .f32 := iblk m c 5 t0_0
theorem iblk_5 (c : Dev nD) (t : Fin cfg0.N) : iblk m c 5 t = aiB m c := rfl
/-- The block of window 6: the ids as a row. -/
def idcB (c : Dev nD) : Vec F S1x2048 .i32 := iblk m c 6 t0_0
theorem iblk_6 (c : Dev nD) (t : Fin cfg0.N) : iblk m c 6 t = idcB m c := rfl

/-! ## The scratch arrays -/

/-- The scratch memref 0. -/
abbrev scM0 := (Memref.whole cc0_scratch0 : Memref sig .tc _ _ _)
/-- The scratch memref 1. -/
abbrev scM1 := (Memref.whole cc0_scratch1 : Memref sig .tc _ _ _)
/-- The scratch memref 2. -/
abbrev scM2 := (Memref.whole cc0_scratch2 : Memref sig .tc _ _ _)
/-- The scratch memref 3. -/
abbrev scM3 := (Memref.whole cc0_scratch3 : Memref sig .tc _ _ _)
/-- The scratch memref 4. -/
abbrev scM4 := (Memref.whole cc0_scratch4 : Memref sig .tc _ _ _)
/-- The scratch memref 5. -/
abbrev scM5 := (Memref.whole cc0_scratch5 : Memref sig .tc _ _ _)
/-- The scratch memref 6. -/
abbrev scM6 := (Memref.whole cc0_scratch6 : Memref sig .tc _ _ _)
/-- The scratch memref 7. -/
abbrev scM7 := (Memref.whole cc0_scratch7 : Memref sig .tc _ _ _)

/-- The invariant's scoped rest, the scratch arrays one by one. -/
theorem PhiA_eq (c : Dev nD) : (Pipeline.ΦA spec0 c : sProp 𝕄) = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r)) := by
  unfold Pipeline.ΦA; rw [scopedRest0_eq]; simp only [scM0, scM1, scM2, scM3, scM4, scM5, scM6, scM7, owns_whole]; try rfl

/-- The scratch arrays after the first point: what the prologue filled, the accumulator and the sums at anything. -/
def Filled (c : Dev nD) : sProp 𝕄 :=
  iprop(iprop(owns (c : Thread nD τ) scM0 fullShare (whV (hB m c) (WB m c)) ∗ owns (c : Thread nD τ) scM1 fullShare (fiV (attSB m c) (hB m c) (WB m c) (aiB m c)) ∗ owns (c : Thread nD τ) scM2 fullShare (fjV (hB m c) (WB m c) (attVB m c)) ∗ owns (c : Thread nD τ) scM3 fullShare (idV (F := F) (idcB m c)) ∗ owns (c : Thread nD τ) scM4 fullShare (aloneV (F := F) (idcB m c)) ∗ (∃ d, owns (c : Thread nD τ) scM5 fullShare d) ∗ (∃ d, owns (c : Thread nD τ) scM6 fullShare d) ∗ owns (c : Thread nD τ) scM7 fullShare (topV (attSB m c) (hB m c) (WB m c) (attVB m c) (aiB m c))) ∗ (∃ r, prngReg c r))

/-- The rows of the result the body leaves at point `t`. -/
def outB (c : Dev nD) (t : Fin cfg0.N) : Vec F S256x512 .f32 :=
  outV (grid0.coords t) (tabB m c) (idcB m c) (whV (hB m c) (WB m c)) (fiV (attSB m c) (hB m c) (WB m c) (aiB m c)) (fjV (hB m c) (WB m c) (attVB m c)) (idV (F := F) (idcB m c)) (aloneV (F := F) (idcB m c)) (topV (attSB m c) (hB m c) (WB m c) (attVB m c) (aiB m c))

/-- The invariant: before the first point the scratch arrays at anything, after it `Filled`. -/
def Phi (c : Dev nD) (n : ℕ) : sProp 𝕄 := if n = 0 then Pipeline.ΦA spec0 c else Filled m c

theorem Phi_zero (c : Dev nD) : Phi m c 0 = Pipeline.ΦA spec0 c := if_pos rfl
theorem Phi_pos (c : Dev nD) (n : ℕ) (h : n ≠ 0) : Phi m c n = Filled m c := if_neg h

/-- The proof data: the arrays as the region finds them, each input's buffer at its block, the output's at `outB`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outB m c t
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outB m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body at every point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The first point's test, of the point's number. -/
theorem isFirst_iff (t : Fin grid0.N) : isFirst (grid0.coords t) ↔ t.val = 0 := by
  have ht : t.val < 8 := Nat.lt_of_lt_of_eq t.isLt N_0
  have e0 : (grid0.coords t 0).val = t.val / 1 % 8 := Pipeline.Grid.coords_val t 0 (by decide) rfl
  simp only [isFirst, e0]
  word_cmp

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6, after_7]
  rw [show (dats m 0 c).Φ t.succ = Phi m c (t.val + 1) from rfl, Phi_pos m c _ (Nat.succ_ne_zero _),
    show (dats m 0 c).Φ t.castSucc = Phi m c t.val from rfl]
  simp only [iblk_0, iblk_1, iblk_2, iblk_3, iblk_4, iblk_5, iblk_6]
  by_cases h0 : t.val = 0
  · rw [h0, Phi_zero, PhiA_eq]
    iintro ⟨⟨⟨S0, S1, S2, S3, S4, S5, S6, S7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (whole_first c (grid0.coords t) _ _ _ _ _ _ _ _ _ _ _ _ _ _ _ _ _ _ _ _ _ _ _ _ _ _ _ _ _ _ _ _ ((isFirst_iff t).mpr h0) (tabB m c) (attSB m c) (hB m c) (WB m c) (attVB m c) (aiB m c) (idcB m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iintro ⟨H0, H1, H2, H3, H4, H5, H6, H7, S0, S1, S2, S3, S4, S5, S6, S7⟩
    isplitl [S0 S1 S2 S3 S4 S5 S6 S7 Hg]
    · unfold Filled
      isplitl [S0 S1 S2 S3 S4 S5 S6 S7]
      · isplitl [S0]; · iexact S0
        isplitl [S1]; · iexact S1
        isplitl [S2]; · iexact S2
        isplitl [S3]; · iexact S3
        isplitl [S4]; · iexact S4
        isplitl [S5]; · iexact S5
        isplitl [S6]; · iexact S6
        iexact S7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold outB
    iexact H7
  · rw [Phi_pos m c _ h0]
    unfold Filled
    iintro ⟨⟨⟨S0, S1, S2, S3, S4, S5, S6, S7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (whole_later c (grid0.coords t) _ _ _ _ _ _ _ _ _ _ _ _ _ _ _ _ _ _ _ _ _ _ _ _ _ _ _ _ _ _ _ _ (fun h => h0 ((isFirst_iff t).mp h)) (tabB m c) (attSB m c) (hB m c) (WB m c) (attVB m c) (aiB m c) (idcB m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iintro ⟨H0, H1, H2, H3, H4, H5, H6, H7, S0, S1, S2, S3, S4, S5, S6, S7⟩
    isplitl [S0 S1 S2 S3 S4 S5 S6 S7 Hg]
    · isplitl [S0 S1 S2 S3 S4 S5 S6 S7]
      · isplitl [S0]; · iexact S0
        isplitl [S1]; · iexact S1
        isplitl [S2]; · iexact S2
        isplitl [S3]; · iexact S3
        isplitl [S4]; · iexact S4
        isplitl [S5]; · iexact S5
        isplitl [S6]; · iexact S6
        iexact S7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold outB
    iexact H7

/-- The body table's row at point `t`'s slots. -/
theorem row_eq (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Phi m c 0 from rfl, Phi_zero]

/-- After the last point the scratch arrays' contents are forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl,
    Phi_pos m c _ (by rw [Fin.val_last]; have : cfg0.N = 8 := N_0; omega), PhiA_eq]
  unfold Filled
  iintro ⟨⟨S0, S1, S2, S3, S4, S5, S6, S7⟩, Hg⟩
  isplitl [S0 S1 S2 S3 S4 S5 S6 S7]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexact S5
    isplitl [S6]; · iexact S6
    iexists _; iexact S7
  iexact Hg

/-! ## The run and the frame -/

set_option backward.isDefEq.respectTransparency.types false in
/-- Every run ends with the arrays as the proof data say, and every counter at zero. -/
theorem run_main : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The frame: the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main m ρ)

end Cert.Proof.KI
-- ==== Proof.Frames.lean ====
/-
  The frames: `Kernel` prints the same program as `KernelIdeal`, so its frame is the same theorem at float words.
-/
module

public import proofs.«01_k».proof.Proof.Run
public import proofs.«01_k».proof.Proof.Gen.Kernel
public import proofs.«01_k».proof.Proof.Gen.Kernel.Skeleton

@[expose] public section

set_option maxRecDepth 16384

noncomputable section

namespace Cert.Proof

open Idealize.ShloMosaic Idealize.ShloMosaic.TcCoe Idealize.SL Idealize.SL.Sem

variable {F : FTy → Type} [FloatOps F]

/-- The two printed kernels are one program. -/
theorem kernel_same : Cert.Kernel.cc0__egat_kernel (F := F) = Cert.KernelIdeal.cc0__egat_kernel (F := F) := rfl

/-- The two printed programs are one. -/
theorem main_same : Cert.Kernel.main (F := F) = Cert.KernelIdeal.main (F := F) := rfl

/-- Their tables of kernel bodies are one. -/
theorem bodies_same : Cert.Kernel.defs₀ (F := F) = Cert.KernelIdeal.defs₀ (F := F) := by
  unfold Cert.Kernel.defs₀ Cert.KernelIdeal.defs₀
  rw [kernel_same]
  refine congrArg Defs.onTc (funext fun l => funext fun x => ?_)
  obtain ⟨n, h⟩ := l
  cases n with
  | zero => rfl
  | succ n => exact absurd h (Nat.not_lt.2 (Nat.le_add_left _ _))

/-- Their pipelines are one. -/
theorem pipelines_same : Cert.Kernel.pcfgs (F := F) = Cert.KernelIdeal.pcfgs (F := F) := rfl

/-- Their tables of labels are one. -/
theorem defs_same : Cert.Kernel.defs (F := F) = Cert.KernelIdeal.defs (F := F) := by
  show Pipeline.defs Cert.Kernel.pcfgs Cert.Kernel.defs₀ = Pipeline.defs Cert.KernelIdeal.pcfgs Cert.KernelIdeal.defs₀
  rw [bodies_same]
  rfl

/-- The frame of `Kernel`. -/
theorem frame_kernel (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  rw [main_same, defs_same]
  exact Cert.Proof.KI.frame m g

end Cert.Proof
-- ==== Proof.Attn.lean ====
/-
  The mathematics of one graph-attention layer over the reals: the scores, the weights, the weighted mean, and the facts that
  the kernel's and the reference's arithmetic both rest on. Nothing here names a program.
-/
module

public import Idealize.ShloMosaic.PureOps.Ideal
public import Idealize.ShloMosaic.PureOps.Ideal.Laws

@[expose] public section

noncomputable section

namespace Cert.Attn

open Idealize.ShloMosaic

/-! ## Sums and quotients of finite values among the extended reals -/

/-- A finite sum of reals is the same sum among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of finite values is the real sum of products. -/
theorem sum_mul {ι : Type*} [Fintype ι] (x y : ι → EReal) (f g : ι → ℝ) (hx : ∀ i, x i = (f i : EReal)) (hy : ∀ i, y i = (g i : EReal)) :
    ∑ i, x i * y i = ((∑ i, f i * g i : ℝ) : EReal) := by
  rw [coe_sum]
  exact Finset.sum_congr rfl fun i _ => by rw [hx, hy, EReal.coe_mul]

/-- The quotient of finite values by a finite value other than zero is the real quotient. -/
theorem div_coe (a b : ℝ) (hb : b ≠ 0) : Ideal.div (a : EReal) (b : EReal) = ((a / b : ℝ) : EReal) := by
  unfold Ideal.div
  rw [if_neg (by rw [EReal.coe_eq_zero]; exact hb), ← EReal.coe_inv, ← EReal.coe_mul, div_eq_mul_inv]

/-- The larger of two finite values is the larger of the reals. -/
theorem max_coe (a b : ℝ) : max (a : EReal) (b : EReal) = ((max a b : ℝ) : EReal) :=
  (EReal.coe_strictMono.monotone.map_max (a := a) (b := b)).symm

/-- The exponential of a finite value. -/
theorem exp_coe (a : ℝ) : Ideal.exp (a : EReal) = ((Real.exp a : ℝ) : EReal) := rfl

/-- Nothing has weight at minus infinity. -/
theorem exp_bot : Ideal.exp ⊥ = 0 := rfl

/-- The maximum of finitely many finite values, at least one, is finite. -/
theorem fold_max_coe {ι : Type*} (s : Finset ι) (hs : s.Nonempty) (x : ι → EReal) (hx : ∀ i ∈ s, ∃ r : ℝ, x i = r) :
    ∃ r : ℝ, s.fold max ⊥ x = r := by
  classical
  have key : ∀ s : Finset ι, (∀ i ∈ s, ∃ r : ℝ, x i = r) → (s = ∅ ∧ s.fold max ⊥ x = ⊥) ∨ ∃ r : ℝ, s.fold max ⊥ x = r := by
    intro s
    induction s using Finset.induction_on with
    | empty => intro _; exact .inl ⟨rfl, rfl⟩
    | insert a s ha ih =>
      intro h
      obtain ⟨r, hr⟩ := h a (Finset.mem_insert_self a s)
      rw [Finset.fold_insert ha, hr]
      rcases ih fun i hi => h i (Finset.mem_insert_of_mem hi) with ⟨_, e⟩ | ⟨q, e⟩
      · exact .inr ⟨r, by rw [e, max_eq_left bot_le]⟩
      · exact .inr ⟨max r q, by rw [e, max_coe]⟩
  rcases key s hx with ⟨e, _⟩ | h
  · exact absurd e hs.ne_empty
  · exact h

/-- The maximum of finitely many values, each finite or minus infinity and at least one finite, is finite. -/
theorem fold_max_coe_of_bot {ι : Type*} (s : Finset ι) (x : ι → EReal) (hx : ∀ i ∈ s, x i = ⊥ ∨ ∃ r : ℝ, x i = r)
    (i₀ : ι) (h₀ : i₀ ∈ s) (r₀ : ℝ) (e₀ : x i₀ = r₀) : ∃ r : ℝ, s.fold max ⊥ x = r := by
  classical
  have hlt : s.fold max ⊥ x < ⊤ := by
    rw [Finset.fold_max_lt]
    refine ⟨bot_lt_top, fun i hi => ?_⟩
    rcases hx i hi with e | ⟨r, e⟩
    · rw [e]; exact bot_lt_top
    · rw [e]; exact EReal.coe_lt_top r
  have hgt : ⊥ < s.fold max ⊥ x := by
    rw [Finset.lt_fold_max]
    exact .inr ⟨i₀, h₀, by rw [e₀]; exact EReal.bot_lt_coe r₀⟩
  exact ⟨(s.fold max ⊥ x).toReal, (EReal.coe_toReal hlt.ne hgt.ne').symm⟩

/-! ## The layer -/

/-- The slope of the leaky rectifier below zero: the single-precision number nearest one tenth. -/
def slope : ℝ := 13421773 * (2 : ℝ) ^ (-27 : ℤ)

/-- The word of the printed slope denotes it. -/
theorem ofBits_slope : Ideal.ofBits .f32 0x3DCCCCCD#32 = (slope : EReal) := by
  show Ideal.ieee 8 23 0x3DCCCCCD#32 = _
  have h1 : (BitVec.extractLsb' (8 + 23) 1 0x3DCCCCCD#32 == 1#1) = false := by decide
  have h2 : (BitVec.extractLsb' 23 8 0x3DCCCCCD#32).toNat = 123 := by decide
  have h3 : (BitVec.extractLsb' 0 23 0x3DCCCCCD#32).toNat = 5033165 := by decide
  unfold Ideal.ieee slope
  simp only [h1, h2, h3]
  norm_num

/-- The word of minus infinity denotes it. -/
theorem ofBits_bot : Ideal.ofBits .f32 0xFF800000#32 = ⊥ := by
  show Ideal.ieee 8 23 0xFF800000#32 = _
  have h1 : (BitVec.extractLsb' (8 + 23) 1 0xFF800000#32 == 1#1) = true := by decide
  have h2 : (BitVec.extractLsb' 23 8 0xFF800000#32).toNat = 255 := by decide
  have h3 : (BitVec.extractLsb' 0 23 0xFF800000#32).toNat = 0 := by decide
  unfold Ideal.ieee
  simp only [h1, h2, h3]
  norm_num

/-- The word of plus infinity denotes it. -/
theorem ofBits_top : Ideal.ofBits .f32 0x7F800000#32 = ⊤ := by
  show Ideal.ieee 8 23 0x7F800000#32 = _
  have h1 : (BitVec.extractLsb' (8 + 23) 1 0x7F800000#32 == 1#1) = false := by decide
  have h2 : (BitVec.extractLsb' 23 8 0x7F800000#32).toNat = 255 := by decide
  have h3 : (BitVec.extractLsb' 0 23 0x7F800000#32).toNat = 0 := by decide
  unfold Ideal.ieee
  simp only [h1, h2, h3]
  norm_num

theorem slope_nonneg : 0 ≤ slope := by unfold slope; positivity

theorem slope_le_one : slope ≤ 1 := by unfold slope; norm_num

/-- The leaky rectifier as the kernel spells it. -/
def leaky (x : ℝ) : ℝ := max x (slope * x)

/-- … and as the reference does, by the sign of its argument. -/
theorem leaky_eq (x : ℝ) : leaky x = if 0 ≤ x then x else slope * x := by
  have h0 := slope_nonneg
  have h1 := slope_le_one
  unfold leaky
  by_cases h : 0 ≤ x
  · rw [if_pos h]
    exact max_eq_left (by nlinarith)
  · rw [if_neg h]
    exact max_eq_right (by nlinarith)

variable (H : Fin 2048 → Fin 512 → ℝ) (Wt : Fin 512 → Fin 512 → ℝ) (A : Fin 1025 → ℝ) (id : Fin 2048 → BitVec 32)

/-- The transformed features: `H` times the transpose of `Wt`. -/
def wh (n : Fin 2048) (f : Fin 512) : ℝ := ∑ k, H n k * Wt f k

/-- A node's own part of its scores. -/
def left (n : Fin 2048) : ℝ := ∑ f : Fin 512, wh H Wt n f * A ⟨f.val, by omega⟩

/-- A node's part of the scores others give it. -/
def right (n : Fin 2048) : ℝ := ∑ f : Fin 512, wh H Wt n f * A ⟨512 + f.val, by omega⟩

/-- The score node `n` gives node `m`. -/
def score (n m : Fin 2048) : ℝ := leaky (left H Wt A n + right H Wt A m + A ⟨1024, by omega⟩)

/-- The weight node `n` gives node `m` before normalisation, the scores shifted down by `t`: nothing outside its segment. -/
def weight (t : ℝ) (n m : Fin 2048) : ℝ := if id n = id m then Real.exp (score H Wt A n m - t) else 0

/-- A node's total weight. -/
def total (t : ℝ) (n : Fin 2048) : ℝ := ∑ m, weight H Wt A id t n m

/-- The weighted mean of the transformed features. -/
def mean (n : Fin 2048) (f : Fin 512) : ℝ := (∑ m, weight H Wt A id 0 n m * wh H Wt m f) / total H Wt A id 0 n

/-- Whether a node is alone in its segment. -/
def lone (n : Fin 2048) : Prop := ∀ m, id m = id n → m = n

open Classical in
/-- The layer's result: a node alone in its segment gets zero. -/
def result (n : Fin 2048) (f : Fin 512) : ℝ := if lone id n then 0 else mean H Wt A id n f

theorem weight_nonneg (t : ℝ) (n m : Fin 2048) : 0 ≤ weight H Wt A id t n m := by
  unfold weight
  split
  · exact (Real.exp_pos _).le
  · exact le_rfl

/-- A node gives itself weight, so its total is positive. -/
theorem total_pos (t : ℝ) (n : Fin 2048) : 0 < total H Wt A id t n := by
  refine Finset.sum_pos' (fun m _ => weight_nonneg H Wt A id t n m) ⟨n, Finset.mem_univ n, ?_⟩
  unfold weight
  rw [if_pos rfl]
  exact Real.exp_pos _

/-- A shift of the scores scales every weight alike. -/
theorem weight_shift (t : ℝ) (n m : Fin 2048) : weight H Wt A id t n m = Real.exp (-t) * weight H Wt A id 0 n m := by
  unfold weight
  split
  · rw [← Real.exp_add]; exact congrArg Real.exp (by ring)
  · exact (mul_zero _).symm

theorem total_shift (t : ℝ) (n : Fin 2048) : total H Wt A id t n = Real.exp (-t) * total H Wt A id 0 n := by
  unfold total
  rw [Finset.mul_sum]
  exact Finset.sum_congr rfl fun m _ => weight_shift H Wt A id t n m

/-- The weighted mean does not depend on the shift: sum first, divide after. -/
theorem mean_shift (t : ℝ) (n : Fin 2048) (f : Fin 512) :
    (∑ m, weight H Wt A id t n m * wh H Wt m f) / total H Wt A id t n = mean H Wt A id n f := by
  unfold mean
  rw [total_shift, show (∑ m, weight H Wt A id t n m * wh H Wt m f) = Real.exp (-t) * ∑ m, weight H Wt A id 0 n m * wh H Wt m f by
    rw [Finset.mul_sum]; exact Finset.sum_congr rfl fun m _ => by rw [weight_shift, mul_assoc]]
  exact mul_div_mul_left _ _ (Real.exp_pos _).ne'

/-- … or divide first, sum after. -/
theorem mean_normalised (t : ℝ) (n : Fin 2048) (f : Fin 512) :
    ∑ m, weight H Wt A id t n m / total H Wt A id t n * wh H Wt m f = mean H Wt A id n f := by
  rw [← mean_shift H Wt A id t n f, Finset.sum_div]
  exact Finset.sum_congr rfl fun m _ => by rw [div_mul_eq_mul_div]

end Cert.Attn

end
-- ==== Proof.Ids.lean ====
module

public import proofs.«01_k».proof.Proof.Attn
public import Idealize.ShloMosaic.Lib.Routing.Ops
public import Idealize.ShloMosaic.Lib.Routing.OpsPair
public import Idealize.ShloMosaic.Lib.Routing.OpsSet
public import Idealize.ShloMosaic.Lib.WordCmp

@[expose] public section

noncomputable section

namespace Cert.Attn

open Idealize.ShloMosaic Idealize.ShloMosaic.ValueIdx Idealize.ShloMosaic.Routing

/-- The segment ids lie in 0..7 and never decrease from one node to the next. -/
structure Sorted (id : Fin 2048 → BitVec 32) : Prop where
  range : ∀ n, (id n).toNat < 8
  mono : ∀ a b : Fin 2048, a ≤ b → (id a).toNat ≤ (id b).toNat

/-- A word below 8 is the same read signed. -/
theorem Sorted.toInt {id : Fin 2048 → BitVec 32} (h : Sorted id) (n : Fin 2048) : (id n).toInt = ((id n).toNat : Int) :=
  BitVec.toInt_eq_toNat_of_lt (by have := h.range n; omega)

/-- Ids in range whose neighbours never decrease are sorted. -/
theorem sorted_of_steps (id : Fin 2048 → BitVec 32) (hr : ∀ n, (id n).toNat < 8)
    (hs : ∀ (n : Nat) (h : n + 1 < 2048), (id ⟨n, by omega⟩).toNat ≤ (id ⟨n + 1, h⟩).toNat) : Sorted id := by
  refine ⟨hr, fun a b hab => ?_⟩
  have key : ∀ (k n : Nat) (h : n + k < 2048), (id ⟨n, by omega⟩).toNat ≤ (id ⟨n + k, h⟩).toNat := by
    intro k
    induction k with
    | zero => exact fun n h => le_rfl
    | succ k ih => exact fun n h => (ih n (by omega)).trans (hs (n + k) h)
  obtain ⟨a, ha⟩ := a
  obtain ⟨b, hb⟩ := b
  have hab' : a ≤ b := hab
  obtain ⟨k, rfl⟩ := Nat.exists_eq_add_of_le hab'
  exact key k a hb

/-- The node before `n` on the ring of nodes. -/
def before (n : Fin 2048) : Fin 2048 := ⟨(n.val + 2047) % 2048, Nat.mod_lt _ (by omega)⟩

/-- The node after `n` on the ring of nodes. -/
def after (n : Fin 2048) : Fin 2048 := ⟨(n.val + 1) % 2048, Nat.mod_lt _ (by omega)⟩

/-- Among sorted ids a node is alone in its segment exactly when both its neighbours on the ring have other ids. -/
theorem lone_iff_neighbours {id : Fin 2048 → BitVec 32} (h : Sorted id) (n : Fin 2048) :
    lone id n ↔ id n ≠ id (before n) ∧ id n ≠ id (after n) := by
  constructor
  · intro hl
    refine ⟨fun e => ?_, fun e => ?_⟩
    · have := congrArg Fin.val (hl _ e.symm)
      change (n.val + 2047) % 2048 = n.val at this
      omega
    · have := congrArg Fin.val (hl _ e.symm)
      change (n.val + 1) % 2048 = n.val at this
      omega
  · rintro ⟨hb, ha⟩ m e
    have hv : (id m).toNat = (id n).toNat := congrArg _ e
    by_contra hne
    rcases lt_or_gt_of_ne hne with hlt | hgt
    · have hlt' : m.val < n.val := hlt
      have hbv : (before n).val = n.val - 1 := by
        show (n.val + 2047) % 2048 = n.val - 1
        have := n.isLt
        omega
      have h1 := h.mono m (before n) (by show m.val ≤ (before n).val; omega)
      have h2 := h.mono (before n) n (by show (before n).val ≤ n.val; omega)
      exact hb (BitVec.eq_of_toNat_eq (by omega))
    · have hgt' : n.val < m.val := hgt
      have hav : (after n).val = n.val + 1 := by
        show (n.val + 1) % 2048 = n.val + 1
        have := m.isLt
        omega
      have h1 := h.mono (after n) m (by show (after n).val ≤ m.val; omega)
      have h2 := h.mono n (after n) (by show n.val ≤ (after n).val; omega)
      exact ha (BitVec.eq_of_toNat_eq (by omega))

/-- Two ranges of nodes with a common id overlap as ranges of ids: the first id of each is at most the last of the other. -/
theorem overlap {id : Fin 2048 → BitVec 32} (h : Sorted id) {n m rl rh cl ch : Fin 2048} (hn : rl ≤ n) (hn' : n ≤ rh)
    (hm : cl ≤ m) (hm' : m ≤ ch) (e : id n = id m) : (id cl).toInt ≤ (id rh).toInt ∧ (id rl).toInt ≤ (id ch).toInt := by
  have h1 := h.mono _ _ hn
  have h2 := h.mono _ _ hn'
  have h3 := h.mono _ _ hm
  have h4 := h.mono _ _ hm'
  rw [e] at h1 h2
  rw [h.toInt, h.toInt, h.toInt, h.toInt]
  omega

/-- How many nodes have id `x`. -/
def size (id : Fin 2048 → BitVec 32) (x : Nat) : Nat := (List.finRange 2048).countP (fun n => decide ((id n).toNat = x))

/-- A segment holds at most every node. -/
theorem size_le (id : Fin 2048 → BitVec 32) (x : Nat) : size id x ≤ 2048 := by
  have := List.countP_le_length (p := fun n : Fin 2048 => decide ((id n).toNat = x)) (l := List.finRange 2048)
  rwa [List.length_finRange] at this

/-- The number of nodes with an id is the number of members of a finite set. -/
theorem size_eq_card (id : Fin 2048 → BitVec 32) (x : Nat) : size id x = (Finset.univ.filter fun n : Fin 2048 => (id n).toNat = x).card := by
  unfold size
  rw [List.countP_eq_length_filter, Fin.univ_def]
  rfl

/-- A node's segment holds more than one node exactly when the node is not alone. -/
theorem one_lt_size (id : Fin 2048 → BitVec 32) (n : Fin 2048) : 1 < size id (id n).toNat ↔ ¬lone id n := by
  rw [size_eq_card, Finset.one_lt_card]
  constructor
  · rintro ⟨a, ha, b, hb, hab⟩ hl
    have ha' := (Finset.mem_filter.1 ha).2
    have hb' := (Finset.mem_filter.1 hb).2
    exact hab ((hl a (BitVec.eq_of_toNat_eq ha')).trans (hl b (BitVec.eq_of_toNat_eq hb')).symm)
  · intro hl
    unfold lone at hl
    push Not at hl
    obtain ⟨m, hm, hne⟩ := hl
    exact ⟨m, Finset.mem_filter.2 ⟨Finset.mem_univ _, congrArg _ hm⟩, n, Finset.mem_filter.2 ⟨Finset.mem_univ _, rfl⟩, hne⟩

/-- An update of a scatter that writes single entries of a vector of 8 by a column of 2048 indices lands at entry `x` exactly when its index,
    read signed, is `x`. -/
theorem lands (d : ScatterDims (shape1 8) (shape2 2048 1) (shape1 2048)) (hiw : d.insertedWindowDims = [0])
    (hsd : d.scatterDimsToOperandDims = [0]) (hivd : d.indexVectorDim = 1) (idx : IVec (shape2 2048 1) 32) (i : Fin 2048) (x : Fin 8) :
    d.resultIdx? (ix1 i) idx = some (ix1 x) ↔ (idx (ix2 i (0 : Fin 1))).toInt = (x.val : Int) := by
  have hmem : (0 : Fin 1) ∈ d.scatterDimsToOperandDims := by rw [hsd]; exact List.mem_singleton.2 rfl
  have hwindow : d.window (ix1 i) 0 = 0 := by
    unfold ScatterDims.window
    refine dif_neg fun h => ?_
    exact of_decide_eq_true (List.mem_filter.1 h).2 (by rw [hiw]; exact List.mem_singleton.2 rfl)
  have hplace : d.siIdx (ix1 i) ⟨d.scatterDimsToOperandDims.idxOf 0, List.idxOf_lt_length_iff.2 hmem⟩ = ix2 i (0 : Fin 1) := by
    funext b
    match b with
    | ⟨0, _⟩ =>
      apply Fin.ext
      unfold ScatterDims.siIdx
      rw [dif_neg (by rw [hivd]; exact Nat.zero_ne_one)]
      unfold ScatterDims.siCoord
      have e : ∀ X : Fin 1, (ix1 i X).val = i.val := fun X => by
        rw [show X = 0 from Subsingleton.elim _ _]
      simp only [Fin.val_cast]
      exact e _
    | ⟨1, _⟩ => exact Subsingleton.elim (α := Fin 1) _ _
  have hstart : d.start (ix1 i) idx 0 = (idx (ix2 i (0 : Fin 1))).toInt := by
    unfold ScatterDims.start
    rw [dif_pos hmem, hplace]
  rw [resultIdx?_eq_some]
  constructor
  · intro h
    have h0 := h 0
    rw [hstart, hwindow] at h0
    change (idx (ix2 i (0 : Fin 1))).toInt + ((0 : Nat) : Int) = (x.val : Int) at h0
    omega
  · intro h a
    obtain rfl : a = 0 := Subsingleton.elim _ _
    rw [hstart, hwindow]
    show (idx (ix2 i (0 : Fin 1))).toInt + ((0 : Nat) : Int) = (x.val : Int)
    omega

/-- A left fold of words is the same fold of one-place tables of words, read at the one place. -/
theorem fold_unit {ι : Type} (g : BitVec 32 → ι → BitVec 32) (l : List ι) (a : BitVec 32) :
    l.foldl g a = l.foldl (fun (r : Unit → BitVec 32) n => fun u => g (r u) n) (fun _ => a) () := by
  induction l generalizing a with
  | nil => rfl
  | cons n l ih => exact ih (g a n)

/-- Scattering ones into zeros at the ids counts, at entry `x`, the nodes with id `x`. -/
theorem scatter_counts {id : Fin 2048 → BitVec 32} (h : Sorted id) (d : ScatterDims (shape1 8) (shape2 2048 1) (shape1 2048))
    (hiw : d.insertedWindowDims = [0]) (hsd : d.scatterDimsToOperandDims = [0]) (hivd : d.indexVectorDim = 1)
    (x0 : IVec (shape1 8) 32) (hx0 : ∀ i, x0 i = 0#32) (idx : IVec (shape2 2048 1) 32) (hidx : ∀ i : Fin 2048, idx (ix2 i (0 : Fin 1)) = id i)
    (upd : IVec (shape1 2048) 32) (hupd : ∀ i, upd i = 1#32) (x : Fin 8) :
    Host.scatter d IntOp.addi x0 idx upd (ix1 x) = BitVec.ofNat 32 (size id x.val) := by
  rw [scatter_at]
  have hit : ∀ n : Fin (shape1 2048).numel, d.resultIdx? ((shape1 2048).rowMajor.symm n) idx = some (ix1 x)
      ↔ (id (n.cast (numel1 2048))).toNat = x.val := fun n => by
    rw [symm1, lands d hiw hsd hivd, hidx, h.toInt]
    exact Int.natCast_inj
  have key := foldl_count (fun (r : Unit → BitVec 32) (n : Fin (shape1 2048).numel) => fun u =>
      if d.resultIdx? ((shape1 2048).rowMajor.symm n) idx = some (ix1 x) then IntOp.addi (r u) (upd ((shape1 2048).rowMajor.symm n)) else r u)
    () (fun n => decide ((id (n.cast (numel1 2048))).toNat = x.val))
    (fun r n => by
      by_cases e : (id (n.cast (numel1 2048))).toNat = x.val
      · rw [if_pos ((hit n).2 e), if_pos (decide_eq_true e), hupd]
      · rw [if_neg fun q => e ((hit n).1 q), if_neg fun q => e (of_decide_eq_true q)])
    (List.finRange (shape1 2048).numel) (fun _ => x0 (ix1 x)) 0 (hx0 _)
  rw [Nat.zero_add] at key
  have count : (List.finRange (shape1 2048).numel).countP (fun n => decide ((id (n.cast (numel1 2048))).toNat = x.val)) = size id x.val := by
    unfold size
    have : ∀ (M : Nat) (hM : M = 2048), (List.finRange M).countP (fun n => decide ((id (n.cast hM)).toNat = x.val))
        = (List.finRange 2048).countP (fun n => decide ((id n).toNat = x.val)) := by
      rintro M rfl
      rfl
    exact this _ (numel1 2048)
  rw [count] at key
  rw [← key]
  exact fold_unit _ _ _

end Cert.Attn

end

end
-- ==== Proof.RVal.lean ====
module

public import proofs.«01_k».proof.Proof.Ids
public import proofs.«01_k».proof.Proof.Gen.ReferenceIdeal.Read
public import Idealize.ShloMosaic.PureOps.Reduce

@[expose] public section

set_option maxRecDepth 16384

noncomputable section

namespace Cert.Attn

open Idealize.ShloMosaic Idealize.ShloMosaic.ValueIdx Idealize.ShloMosaic.Routing

/-- The four arguments hold the real features `H`, weights `Wt` and attention weights `A`, and the ids `id`. -/
structure Holds (x0 : (shape2 2048 512).Idx → EReal) (x1 : (shape1 2048).Idx → BitVec 32) (x2 : (shape2 512 512).Idx → EReal)
    (x3 : (shape2 1 1025).Idx → EReal) (H : Fin 2048 → Fin 512 → ℝ) (Wt : Fin 512 → Fin 512 → ℝ) (A : Fin 1025 → ℝ)
    (id : Fin 2048 → BitVec 32) : Prop where
  feat : ∀ n k, x0 (ix2 n k) = ((H n k : ℝ) : EReal)
  ids : ∀ n, x1 (ix1 n) = id n
  wt : ∀ f k, x2 (ix2 f k) = ((Wt f k : ℝ) : EReal)
  att : ∀ k, x3 (ix2 (0 : Fin 1) k) = ((A k : ℝ) : EReal)

/-- A matrix read at an index with coordinates `n` and `m` is read at `(n, m)`. -/
theorem at2 {α : Type} {a b : Nat} (y : (shape2 a b).Idx → α) (i : (shape2 a b).Idx) (n : Fin a) (m : Fin b) (h0 : (i 0).val = n.val)
    (h1 : (i 1).val = m.val) : y i = y (ix2 n m) :=
  congrArg y (by
    funext b
    match b with
    | ⟨0, _⟩ => exact Fin.ext h0
    | ⟨1, _⟩ => exact Fin.ext h1)

/-- A vector read at an index with coordinate `n` is read at `n`. -/
theorem at1 {α : Type} {a : Nat} (y : (shape1 a).Idx → α) (i : (shape1 a).Idx) (n : Fin a) (h0 : (i 0).val = n.val) : y i = y (ix1 n) :=
  congrArg y (by
    funext b
    match b with
    | ⟨0, _⟩ => exact Fin.ext h0)

/-- The comparison for equality of two words is the bit that is set when they are equal. -/
theorem select_eq {α : Type} (x y : BitVec 32) (p q : α) : Scalar.select (IntOp.cmpi .eq x y) p q = if x = y then p else q := by
  rw [WordCmp.cmpi_eq_eq]
  by_cases e : x = y
  · rw [if_pos e, decide_eq_true e]; rfl
  · rw [if_neg e, decide_eq_false e]; rfl

end Cert.Attn

namespace Cert.ReferenceIdeal.Read

open Idealize.ShloMosaic Idealize.ShloMosaic.ValueIdx Idealize.ShloMosaic.Routing Cert.Attn

variable {x0 : (shape2 2048 512).Idx → EReal} {x1 : (shape1 2048).Idx → BitVec 32} {x2 : (shape2 512 512).Idx → EReal}
  {x3 : (shape2 1 1025).Idx → EReal} {H : Fin 2048 → Fin 512 → ℝ} {Wt : Fin 512 → Fin 512 → ℝ} {A : Fin 1025 → ℝ}
  {id : Fin 2048 → BitVec 32}

/-- The reference's projected features. -/
theorem r_wh (h : Holds x0 x1 x2 x3 H Wt A id) (n : Fin 2048) (f : Fin 512) :
    val_main_v1 (F := Ideal) x0 x2 (ix2 n f) = ((wh H Wt n f : ℝ) : EReal) := by
  rw [val_main_v1_apply]
  refine sum_mul _ _ (fun k => H n k) (fun k => Wt f k) (fun k => ?_) (fun k => ?_)
  · exact (at2 x0 _ n k rfl rfl).trans (h.feat n k)
  · rw [val_main_v0_apply]
    exact (at2 x2 _ f k rfl rfl).trans (h.wt f k)

/-- The reference's attention weights read as one vector. -/
theorem r_att (h : Holds x0 x1 x2 x3 H Wt A id) (i : (shape1 1025).Idx) (k : Fin 1025) (hk : (i 0).val = k.val) :
    val_main_v2 (F := Ideal) x3 i = ((A k : ℝ) : EReal) := by
  rw [val_main_v2_apply]
  refine (at2 x3 _ 0 k rfl ?_).trans (h.att k)
  show (i 0).val % 1025 = k.val
  rw [hk, Nat.mod_eq_of_lt k.isLt]

/-- The reference's score of a node as a receiver. -/
theorem r_left (h : Holds x0 x1 x2 x3 H Wt A id) (i : (shape1 2048).Idx) (n : Fin 2048) (hn : (i 0).val = n.val) :
    val_main_v7 (F := Ideal) x0 x2 x3 i = ((left H Wt A n : ℝ) : EReal) := by
  rw [val_main_v7_apply]
  refine sum_mul _ _ (fun f => wh H Wt n f) (fun f => A ⟨f.val, by omega⟩) (fun f => ?_) (fun f => ?_)
  · exact (at2 _ _ n f hn rfl).trans (r_wh h n f)
  · rw [val_main_v3_apply]
    exact r_att h _ _ rfl

/-- The reference's score of a node as a neighbour. -/
theorem r_right (h : Holds x0 x1 x2 x3 H Wt A id) (i : (shape1 2048).Idx) (n : Fin 2048) (hn : (i 0).val = n.val) :
    val_main_v8 (F := Ideal) x0 x2 x3 i = ((right H Wt A n : ℝ) : EReal) := by
  rw [val_main_v8_apply]
  refine sum_mul _ _ (fun f => wh H Wt n f) (fun f => A ⟨512 + f.val, by omega⟩) (fun f => ?_) (fun f => ?_)
  · exact (at2 _ _ n f hn rfl).trans (r_wh h n f)
  · rw [val_main_v4_apply]
    exact r_att h _ _ rfl

/-- The reference's offset of the scores. -/
theorem r_offset (h : Holds x0 x1 x2 x3 H Wt A id) (i : S_.Idx) :
    val_main_v6 (F := Ideal) x3 i = ((A ⟨1024, by omega⟩ : ℝ) : EReal) := by
  unfold val_main_v6
  unfold shapeCast
  rw [val_main_v5_apply]
  refine r_att h _ _ ?_
  show 1024 + _ = 1024
  have : ∀ x : Fin 1, x.val = 0 := fun x => by omega
  exact congrArg (1024 + ·) (this _)

/-- The reference's sum of scores before the leaky unit. -/
theorem r_pre (h : Holds x0 x1 x2 x3 H Wt A id) (n m : Fin 2048) :
    val_main_v15 (F := Ideal) x0 x2 x3 (ix2 n m) = ((left H Wt A n + right H Wt A m + A ⟨1024, by omega⟩ : ℝ) : EReal) := by
  rw [val_main_v15_apply, val_main_v13_apply, val_main_v11_apply, val_main_v9_apply, val_main_v12_apply, val_main_v10_apply, val_main_v14_apply,
    r_left h _ n rfl, r_right h _ m rfl, r_offset h, EReal.coe_add, EReal.coe_add]
  rfl

/-- The reference's score of a pair of nodes. -/
theorem r_score (h : Holds x0 x1 x2 x3 H Wt A id) (n m : Fin 2048) :
    val_main_v16 (F := Ideal) x0 x2 x3 (ix2 n m) = ((score H Wt A n m : ℝ) : EReal) := by
  rw [val_main_v16_apply, val_main_call0_v1_apply, val_main_call0_v4_apply, val_main_call0_v0_apply, val_main_call0_v3_apply,
    val_main_call0_cst_apply, val_main_call0_v2_apply, val_main_cst_apply, r_pre h]
  unfold score
  rw [leaky_eq]
  generalize left H Wt A n + right H Wt A m + A ⟨1024, by omega⟩ = e
  show Scalar.select (Ideal.cmp .oge (e : EReal) (Ideal.ofBits .f32 0#32)) (e : EReal) (Ideal.ofBits .f32 0x3DCCCCCD#32 * (e : EReal)) = _
  rw [Ideal.ofBits_zero_f32, ofBits_slope]
  by_cases he : 0 ≤ e
  · rw [if_pos he, show Ideal.cmp .oge (e : EReal) 0 = 1#1 from congrArg BitVec.ofBool (decide_eq_true (EReal.coe_nonneg.2 he)), select_one]
  · rw [if_neg he, show Ideal.cmp .oge (e : EReal) 0 = 0#1 from
      congrArg BitVec.ofBool (decide_eq_false fun q => he (EReal.coe_nonneg.1 q)), select_zero, EReal.coe_mul]

/-- The reference's score where the ids agree, minus infinity elsewhere. -/
theorem r_masked (h : Holds x0 x1 x2 x3 H Wt A id) (n m : Fin 2048) :
    val_main_v22 (F := Ideal) x0 x1 x2 x3 (ix2 n m) = if id n = id m then ((score H Wt A n m : ℝ) : EReal) else ⊥ := by
  rw [val_main_v22_apply, val_main_v21_apply, val_main_v19_apply, val_main_v17_apply, val_main_v20_apply, val_main_v18_apply,
    val_main_call1_v1_apply, val_main_call1_v0_apply, val_main_cst_0_apply, r_score h]
  rw [at1 x1 (idx_main_v17 _) n rfl, at1 x1 (idx_main_v18 _) m rfl, h.ids, h.ids, select_eq]
  split
  · rfl
  · exact ofBits_bot

/-- The reference's row maximum is a real number. -/
theorem r_max (h : Holds x0 x1 x2 x3 H Wt A id) (n : Fin 2048) : ∃ t : ℝ, val_main_v25 (F := Ideal) x0 x1 x2 x3 (ix1 n) = (t : EReal) := by
  have hr : S2048x2048.Reduces [1] S2048 := by decide
  have hlift : ∀ m : Fin 2048, val_main_v22 (F := Ideal) x0 x1 x2 x3 (hr.lift (ix1 n) m)
      = if id n = id m then ((score H Wt A n m : ℝ) : EReal) else ⊥ := fun m =>
    (at2 _ _ n m rfl rfl).trans (r_masked h n m)
  obtain ⟨t, ht⟩ := fold_max_coe_of_bot (Finset.univ : Finset (Fin 2048)) (fun m => val_main_v22 (F := Ideal) x0 x1 x2 x3 (hr.lift (ix1 n) m))
    (fun m _ => by
      show val_main_v22 (F := Ideal) x0 x1 x2 x3 (hr.lift (ix1 n) m) = ⊥ ∨ _
      rw [hlift]
      split
      · exact Or.inr ⟨_, rfl⟩
      · exact Or.inl rfl) n (Finset.mem_univ _) (score H Wt A n n) ((hlift n).trans (if_pos rfl))
  refine ⟨t, ?_⟩
  have e23 : val_main_v23 (F := Ideal) x0 x1 x2 x3 (ix1 n) = (t : EReal) := by
    unfold val_main_v23
    haveI : Std.Commutative (FloatOps.maximumf (F := Ideal) (φ := .f32)) := ⟨fun a b => max_comm (α := EReal) a b⟩
    haveI : Std.Associative (FloatOps.maximumf (F := Ideal) (φ := .f32)) := ⟨fun a b c => max_assoc (α := EReal) a b c⟩
    rw [Host.reduce_eq_fold_single _ _ _ _ hr]
    rw [val_main_cst_1_apply]
    show Finset.fold _ (Ideal.ofBits .f32 0xFF800000#32) _ _ = _
    rw [ofBits_bot]
    exact ht
  rw [val_main_v25_apply, e23, val_main_v24_apply, val_main_cst_2_apply]
  show max (Ideal.ofBits .f32 0xFF800000#32) (t : EReal) = _
  rw [ofBits_bot, max_eq_right bot_le]

/-- The reference's weight of a pair, at the real row maximum. -/
theorem r_weight (h : Holds x0 x1 x2 x3 H Wt A id) {n : Fin 2048} {t : ℝ} (ht : val_main_v25 (F := Ideal) x0 x1 x2 x3 (ix1 n) = (t : EReal))
    (m : Fin 2048) : val_main_v29 (F := Ideal) x0 x1 x2 x3 (ix2 n m) = ((weight H Wt A id t n m : ℝ) : EReal) := by
  rw [val_main_v29_apply, val_main_v28_apply, val_main_v27_apply, val_main_v26_apply, r_masked h, at1 (val_main_v25 (F := Ideal) x0 x1 x2 x3) (idx_main_v26 _) n rfl, ht]
  unfold weight
  split
  · show Ideal.exp (((score H Wt A n m : ℝ) : EReal) - (t : EReal)) = _
    rw [← EReal.coe_sub, exp_coe]
  · show Ideal.exp (⊥ - (t : EReal)) = _
    rw [EReal.bot_sub, exp_bot]
    rfl

/-- The reference's row total. -/
theorem r_total (h : Holds x0 x1 x2 x3 H Wt A id) {n : Fin 2048} {t : ℝ} (ht : val_main_v25 (F := Ideal) x0 x1 x2 x3 (ix1 n) = (t : EReal))
    (i : (shape1 2048).Idx) (hi : (i 0).val = n.val) : val_main_v30 (F := Ideal) x0 x1 x2 x3 i = ((total H Wt A id t n : ℝ) : EReal) := by
  rw [val_main_v30_apply, val_main_cst_3_apply]
  show Ideal.ofBits .f32 0#32 + _ = _
  rw [Ideal.ofBits_zero_f32, zero_add]
  unfold total
  rw [coe_sum]
  exact Finset.sum_congr rfl fun m _ => (at2 _ _ n m hi rfl).trans (r_weight h ht m)

/-- The reference's normalised weight. -/
theorem r_normalised (h : Holds x0 x1 x2 x3 H Wt A id) {n : Fin 2048} {t : ℝ}
    (ht : val_main_v25 (F := Ideal) x0 x1 x2 x3 (ix1 n) = (t : EReal)) (m : Fin 2048) :
    val_main_v34 (F := Ideal) x0 x1 x2 x3 (ix2 n m) = ((weight H Wt A id t n m / total H Wt A id t n : ℝ) : EReal) := by
  rw [val_main_v34_apply, val_main_v21_apply, val_main_v19_apply, val_main_v17_apply, val_main_v20_apply, val_main_v18_apply,
    val_main_call2_v1_apply, val_main_call2_v0_apply, val_main_cst_4_apply, val_main_v33_apply, val_main_v32_apply, val_main_v31_apply,
    r_weight h ht, r_total h ht _ rfl]
  rw [at1 x1 (idx_main_v17 _) n rfl, at1 x1 (idx_main_v18 _) m rfl, h.ids, h.ids, select_eq]
  split
  · exact div_coe _ _ (total_pos H Wt A id t n).ne'
  · next e =>
    unfold weight
    rw [if_neg e, zero_div]
    exact Ideal.ofBits_zero_f32

/-- The reference's weighted mean of the projected features. -/
theorem r_mean (h : Holds x0 x1 x2 x3 H Wt A id) (n : Fin 2048) (f : Fin 512) :
    val_main_v35 (F := Ideal) x0 x1 x2 x3 (ix2 n f) = ((mean H Wt A id n f : ℝ) : EReal) := by
  obtain ⟨t, ht⟩ := r_max h n
  rw [val_main_v35_apply, ← mean_normalised H Wt A id t n f]
  refine sum_mul _ _ (fun m => weight H Wt A id t n m / total H Wt A id t n) (fun m => wh H Wt m f) (fun m => ?_) (fun m => ?_)
  · exact (at2 _ _ n m rfl rfl).trans (r_normalised h ht m)
  · exact (at2 _ _ m f rfl rfl).trans (r_wh h m f)

/-- A word in 0..7 is not below zero. -/
theorem not_below (hs : Sorted id) (n : Fin 2048) : IntOp.cmpi .slt (id n) 0#32 = 0#1 := by
  rw [WordCmp.cmpi_slt_eq, hs.toInt, decide_eq_false (by show ¬((id n).toNat : Int) < 0; omega)]
  rfl

/-- The reference's clipped and wrapped index is the id. -/
theorem r_clipped (h : Holds x0 x1 x2 x3 H Wt A id) (hs : Sorted id) (n : Fin 2048) :
    val_main_v43 (F := Ideal) x1 (ix2 n (0 : Fin 1)) = id n := by
  have e37 : val_main_v37 (F := Ideal) x1 (ix1 n) = id n := by
    rw [val_main_v37_apply, val_main_call3_v1_apply, val_main_call3_v0_apply, val_main_c_5_apply, h.ids]
    unfold IntOp.maxsi
    have : ¬(id n).toInt < 0 := by rw [hs.toInt]; omega
    have e : (BitVec.slt (id n) 0#32) = false := decide_eq_false this
    split
    · next q =>
      apply BitVec.eq_of_toInt_eq
      have h0 : (0#32 : BitVec 32).toInt = 0 := by decide
      have := hs.toInt n
      simp only [BitVec.sle, BitVec.slt, decide_eq_true_eq] at q
      omega
    · rfl
  rw [val_main_v43_apply, at1 (val_main_v42 (F := Ideal) x1) (idx_main_v43 _) n rfl, val_main_v42_apply, val_main_v39_apply, val_main_v38_apply, val_main_c_6_apply, e37,
    not_below hs, select_zero]

/-- The reference's wrapped index of the counts is the id. -/
theorem r_wrapped (h : Holds x0 x1 x2 x3 H Wt A id) (hs : Sorted id) (n : Fin 2048) :
    val_main_v51 (F := Ideal) x1 (ix2 n (0 : Fin 1)) = id n := by
  rw [val_main_v51_apply, at1 (val_main_v50 (F := Ideal) x1) (idx_main_v51 _) n rfl, val_main_v50_apply, val_main_v47_apply, val_main_v46_apply, val_main_c_9_apply, h.ids,
    not_below hs, select_zero]

/-- The reference's count of the nodes in a node's segment. -/
theorem r_size (h : Holds x0 x1 x2 x3 H Wt A id) (hs : Sorted id) (n : Fin 2048) :
    val_main_v52 (F := Ideal) x1 (ix1 n) = BitVec.ofNat 32 (size id (id n).toNat) := by
  unfold val_main_v52
  have hb : val_main_v51 (F := Ideal) x1 (ix2 n (0 : Fin 1)) = BitVec.ofNat 32 (⟨(id n).toNat, hs.range n⟩ : Fin 8).val := by
    rw [r_wrapped h hs]
    exact BitVec.eq_of_toNat_eq (by rw [BitVec.toNat_ofNat]; exact (Nat.mod_eq_of_lt (id n).isLt).symm)
  rw [gather_take1 _ rfl rfl rfl rfl _ _ n ⟨(id n).toNat, hs.range n⟩ hb (by norm_num)]
  unfold val_main_v45
  exact scatter_counts hs _ rfl rfl rfl _ (fun i => by rw [val_main_v36_apply, val_main_c_apply]) _ (r_clipped h hs) _
    (fun i => by rw [val_main_v44_apply, val_main_c_8_apply]) _

/-- The reference's whole result at node `n` and feature `f`. -/
theorem r_result (h : Holds x0 x1 x2 x3 H Wt A id) (hs : Sorted id) (n : Fin 2048) (f : Fin 512) :
    val_main_v56 (F := Ideal) x0 x1 x2 x3 (ix2 n f) = ((result H Wt A id n f : ℝ) : EReal) := by
  rw [val_main_v56_apply, val_main_call4_v1_apply, val_main_v55_apply, at1 (val_main_v54 (F := Ideal) x1) (idx_main_v55 _) n rfl, val_main_v54_apply, val_main_v53_apply,
    val_main_c_11_apply, val_main_call4_v2_apply, val_main_call4_v0_apply, val_main_cst_12_apply, r_mean h, r_size h hs]
  have hsz := size_le id (id n).toNat
  rw [WordCmp.cmpi_sgt_ofNat (w := 32) (a := size id (id n).toNat) (b := 1) (by omega) (by omega)]
  unfold result
  by_cases hl : lone id n
  · rw [if_pos hl, decide_eq_false (fun q => (one_lt_size id n).1 q hl)]
    exact Ideal.ofBits_zero_f32
  · rw [if_neg hl, decide_eq_true ((one_lt_size id n).2 hl)]
    rfl

end Cert.ReferenceIdeal.Read

end
-- ==== Proof.KPro.lean ====
/-
  The arrays the kernel's prologue fills, read entry by entry over the reals.
-/
module

public import proofs.«01_k».proof.Proof.Run
public import proofs.«01_k».proof.Proof.RVal
public import Idealize.ShloMosaic.Lib.MatmulPlain
public import Idealize.ShloMosaic.Lib.KernelVsHost

@[expose] public section

set_option maxRecDepth 16384

noncomputable section

namespace Cert.Proof.KI

open Cert.KernelIdeal Cert.KernelIdeal.Gen Cert.Attn
open Idealize.ShloMosaic Idealize.ShloMosaic.ValueIdx Idealize.ShloMosaic.Routing

/-- The seven input blocks hold the real features `H`, weights `Wt` and attention weights `A`, and the ids `id`, in the layouts the
    windows give them. -/
structure Blocks (tab : Vec Ideal S2048 .i32) (attS : Vec Ideal S1x1025 .f32) (h : Vec Ideal S2048x512 .f32) (W : Vec Ideal S512x512 .f32)
    (attV : Vec Ideal S1x1025 .f32) (ai : Vec Ideal S512x1 .f32) (idc : Vec Ideal S1x2048 .i32)
    (H : Fin 2048 → Fin 512 → ℝ) (Wt : Fin 512 → Fin 512 → ℝ) (A : Fin 1025 → ℝ) (id : Fin 2048 → BitVec 32) : Prop where
  tab : ∀ n : Fin 2048, tab (ix1 n) = id n
  attS : ∀ k : Fin 1025, attS (ix2 (0 : Fin 1) k) = ((A k : ℝ) : EReal)
  feat : ∀ (n : Fin 2048) (k : Fin 512), h (ix2 n k) = ((H n k : ℝ) : EReal)
  wt : ∀ f k : Fin 512, W (ix2 f k) = ((Wt f k : ℝ) : EReal)
  attV : ∀ k : Fin 1025, attV (ix2 (0 : Fin 1) k) = ((A k : ℝ) : EReal)
  ai : ∀ k : Fin 512, ai (ix2 k (0 : Fin 1)) = ((A ⟨k.val, by omega⟩ : ℝ) : EReal)
  idc : ∀ n : Fin 2048, idc (ix2 (0 : Fin 1) n) = id n

variable {tab : Vec Ideal S2048 .i32} {attS : Vec Ideal S1x1025 .f32} {h : Vec Ideal S2048x512 .f32} {W : Vec Ideal S512x512 .f32}
    {attV : Vec Ideal S1x1025 .f32} {ai : Vec Ideal S512x1 .f32} {idc : Vec Ideal S1x2048 .i32}
    {H : Fin 2048 → Fin 512 → ℝ} {Wt : Fin 512 → Fin 512 → ℝ} {A : Fin 1025 → ℝ} {id : Fin 2048 → BitVec 32}

/-- The kernel's projected features. -/
theorem k_wh8 (b : Blocks tab attS h W attV ai idc H Wt A id) (n : Fin 2048) (f : Fin 512) :
    k0_pay8 (F := Ideal) h W (ix2 n f) = ((wh H Wt n f : ℝ) : EReal) := by
  refine (Ideal.matmul_transposedRhs_apply (M := 2048) (K := 512) (N := 512) none _ _ _ n f).trans ?_
  show Ideal.ofBits .f32 0#32 + _ = _
  rw [Ideal.ofBits_zero_f32, zero_add]
  exact sum_mul _ _ (fun k => H n k) (fun k => Wt f k) (fun k => b.feat n k) (fun k => b.wt f k)

/-- The stored projected features. -/
theorem k_wh (b : Blocks tab attS h W attV ai idc H Wt A id) (n : Fin 2048) (f : Fin 512) :
    whV (F := Ideal) h W (ix2 n f) = ((wh H Wt n f : ℝ) : EReal) := by
  unfold whV k0_pay9
  rw [shapeCast_self]
  exact k_wh8 b n f

/-- The last attention weight, as the kernel reads it. -/
theorem k_last (b : Blocks tab attS h W attV ai idc H Wt A id) : attLast (F := Ideal) attS = ((A ⟨1024, by omega⟩ : ℝ) : EReal) := by
  refine Eq.trans ?_ (b.attS ⟨1024, by omega⟩)
  have z : ∀ x : Fin 1, x.val = 0 := fun x => by omega
  refine at2 attS _ 0 ⟨1024, by omega⟩ ?_ ?_
  · exact z _
  · exact (congrArg (1024 + 1 * ·) (z _) : 1024 + 1 * _ = 1024 + 1 * 0)

/-- The receivers' scores with the offset. -/
theorem k_left10 (b : Blocks tab attS h W attV ai idc H Wt A id) (n : Fin 2048) :
    k0_pay10 (F := Ideal) h W (attLast attS) ai (ix2 n (0 : Fin 1)) = ((left H Wt A n + A ⟨1024, by omega⟩ : ℝ) : EReal) := by
  unfold k0_pay10
  rw [shapeCast_self]
  show FloatOps.matmul (F := Ideal) (DotDims.plain 2048 512 1) none (k0_pay8 h W) ai (constant S2048x1 .f32 0#32) (ix2 n (0 : Fin 1)) + attLast (F := Ideal) attS = _
  rw [Ideal.matmul_plain_apply, k_last b, EReal.coe_add]
  refine congrArg (· + _) ?_
  show Ideal.ofBits .f32 0#32 + _ = _
  rw [Ideal.ofBits_zero_f32, zero_add]
  exact sum_mul _ _ (fun f => wh H Wt n f) (fun f => A ⟨f.val, by omega⟩) (fun f => k_wh8 b n f) (fun f => b.ai f)

/-- The stored receivers' scores. -/
theorem k_left (b : Blocks tab attS h W attV ai idc H Wt A id) (n : Fin 2048) :
    fiV (F := Ideal) attS h W ai (ix2 n (0 : Fin 1)) = ((left H Wt A n + A ⟨1024, by omega⟩ : ℝ) : EReal) := by
  unfold fiV k0_pay11
  rw [shapeCast_self]
  exact k_left10 b n

/-- The neighbours' scores. -/
theorem k_right12 (b : Blocks tab attS h W attV ai idc H Wt A id) (n : Fin 2048) :
    k0_pay12 (F := Ideal) h W (attNb attV) (ix2 (0 : Fin 1) n) = ((right H Wt A n : ℝ) : EReal) := by
  refine (Ideal.matmul_transposedRhs_apply (M := 1) (K := 512) (N := 2048) none _ _ _ 0 n).trans ?_
  show Ideal.ofBits .f32 0#32 + _ = _
  rw [Ideal.ofBits_zero_f32, zero_add]
  refine (sum_mul _ _ (fun f => A ⟨512 + f.val, by omega⟩) (fun f => wh H Wt n f) (fun f => ?_) (fun f => k_wh8 b n f)).trans ?_
  · refine Eq.trans ?_ (b.attV ⟨512 + f.val, by omega⟩)
    refine at2 attV _ 0 ⟨512 + f.val, by omega⟩ rfl ?_
    show 512 + 1 * f.val = 512 + f.val
    omega
  · unfold right
    exact congrArg _ (Finset.sum_congr rfl fun f _ => mul_comm _ _)

/-- The stored neighbours' scores. -/
theorem k_right (b : Blocks tab attS h W attV ai idc H Wt A id) (n : Fin 2048) :
    fjV (F := Ideal) h W attV (ix2 (0 : Fin 1) n) = ((right H Wt A n : ℝ) : EReal) := by
  unfold fjV k0_pay13
  rw [shapeCast_self]
  exact k_right12 b n

/-- A row of words stood up as a column keeps its entries. -/
theorem column_apply {α : Type} (x : (shape2 1 2048).Idx → α) (hc : (shape2 1 2048).ShapeCasts (shape2 2048 1)) (n : Fin 2048) :
    shapeCast (shape2 2048 1) x hc (ix2 n (0 : Fin 1)) = x (ix2 (0 : Fin 1) n) :=
  shapeCast_apply x hc _ _ (by
    rw [Shape.rowMajor_val_two, Shape.rowMajor_val_two]
    show 0 * 2048 + n.val = n.val * 1 + 0
    omega)

/-- The stored ids. -/
theorem k_ids (b : Blocks tab attS h W attV ai idc H Wt A id) (n : Fin 2048) : idV (F := Ideal) idc (ix2 n (0 : Fin 1)) = id n := by
  unfold idV k0_pay15 k0_pay14
  rw [shapeCast_self, shapeCast_self]
  exact (column_apply idc _ n).trans (b.idc n)

/-- A row rotated by `s` holds at `n` the entry `s` places before. -/
theorem rotated (s : BitVec 32) (x : (shape2 1 2048).Idx → BitVec 32) (hr : (shape2 1 2048).Rotates 1 none) (n m : Fin 2048)
    (hm : m.val = (n.val + 2048 - s.toNat % 2048) % 2048) : dynamicRotate 1 s none x hr (ix2 (0 : Fin 1) n) = x (ix2 (0 : Fin 1) m) :=
  dynamicRotate_apply 1 s x hr _ _ fun a => by
    match a with
    | ⟨0, _⟩ => exact (if_neg (show ¬(0 : Fin 2) = 1 by decide)).symm
    | ⟨1, _⟩ => exact hm.trans (if_pos (show (1 : Fin 2) = 1 from rfl)).symm

open Classical in
/-- The stored marks: 1 at a node alone in its segment, 0 elsewhere. -/
theorem k_alone (b : Blocks tab attS h W attV ai idc H Wt A id) (hs : Sorted id) (n : Fin 2048) :
    aloneV (F := Ideal) idc (ix2 n (0 : Fin 1)) = if lone id n then 1#32 else 0#32 := by
  unfold aloneV k0_pay17 k0_pay16 k0_pay14
  dsimp only
  rw [shapeCast_self, shapeCast_self]
  refine (column_apply _ _ n).trans ?_
  show BitVec.setWidth 32 (IntOp.andi (IntOp.cmpi .ne (idc (ix2 (0 : Fin 1) n)) (dynamicRotate 1 1#32 none idc rotates_S1x2048_d1 (ix2 (0 : Fin 1) n)))
    (IntOp.cmpi .ne (idc (ix2 (0 : Fin 1) n)) (dynamicRotate 1 2047#32 none idc rotates_S1x2048_d1 (ix2 (0 : Fin 1) n)))) = _
  have hb : (before n).val = (n.val + 2048 - (1#32).toNat % 2048) % 2048 := by
    show (n.val + 2047) % 2048 = (n.val + 2048 - 1) % 2048
    omega
  have ha : (after n).val = (n.val + 2048 - (2047#32).toNat % 2048) % 2048 := by
    show (n.val + 1) % 2048 = (n.val + 2048 - 2047) % 2048
    omega
  rw [rotated 1#32 idc rotates_S1x2048_d1 n (before n) hb, rotated 2047#32 idc rotates_S1x2048_d1 n (after n) ha, b.idc, b.idc, b.idc,
    WordCmp.cmpi_ne_eq, WordCmp.cmpi_ne_eq, WordCmp.andi_ofBool]
  by_cases hl : lone id n
  · obtain ⟨h1, h2⟩ := (lone_iff_neighbours hs n).1 hl
    rw [if_pos hl, decide_eq_true h1, decide_eq_true h2]
    rfl
  · rw [if_neg hl]
    have : (decide (id n ≠ id (before n)) && decide (id n ≠ id (after n))) = false := by
      rw [Bool.eq_false_iff]
      intro q
      rw [Bool.and_eq_true] at q
      exact hl ((lone_iff_neighbours hs n).2 ⟨of_decide_eq_true q.1, of_decide_eq_true q.2⟩)
    rw [this]
    rfl

/-- The maximum of an array of real numbers down to one entry is a real number. -/
theorem max_real {s : Shape} {ax : List (Fin s.rank)} (x : FVec Ideal s .f32) (hr : s.Reduces ax S1) (i₀ : s.Idx)
    (hx : ∀ i, ∃ r : ℝ, x i = (r : EReal)) (hφ : FKind.Formats .f32) (hacc : 0xFF800000#32 = FKind.maximumf.neutral .f32 hφ) (j : S1.Idx) :
    ∃ r : ℝ, multiReduction (F := Ideal) .maximumf ax S1 x 0xFF800000#32 hr hφ hacc j = (r : EReal) := by
  rw [multiReduction_maximumf_eq_fold]
  have sub : ∀ p q : S1.Idx, p = q := fun p q => (eq_ix1 p).trans ((congrArg ix1 (Subsingleton.elim (α := Fin 1) _ _)).trans (eq_ix1 q).symm)
  obtain ⟨r, e⟩ := fold_max_coe (Finset.univ.filter fun i => hr.drop i = j) ⟨i₀, Finset.mem_filter.2 ⟨Finset.mem_univ _, sub _ _⟩⟩ x (fun i _ => hx i)
  refine ⟨r, ?_⟩
  show Finset.fold _ (Ideal.ofBits .f32 0xFF800000#32) _ _ = _
  rw [ofBits_bot]
  exact e

/-- So is the one word taken from it. -/
theorem max_word {s : Shape} {ax : List (Fin s.rank)} (x : FVec Ideal s .f32) (hr : s.Reduces ax S1) (i₀ : s.Idx)
    (hx : ∀ i, ∃ r : ℝ, x i = (r : EReal)) :
    ∃ r : ℝ, extractAt ![0, 0, 0] (shapeCast S1x1x1 (multiReduction (F := Ideal) .maximumf ax S1 x 0xFF800000#32 hr (.inl rfl) rfl)
      shapeCasts_S1_S1x1x1) inpos_S1x1x1_p0_0_0 = (r : EReal) :=
  max_real x hr i₀ hx (.inl rfl) rfl _

/-- The shift of the exponents is a real number. -/
theorem k_top (b : Blocks tab attS h W attV ai idc H Wt A id) : ∃ t : ℝ, topS (F := Ideal) (topV attS h W attV ai) = (t : EReal) := by
  have hl : ∀ i, ∃ r : ℝ, k0_pay10 (F := Ideal) h W (attLast attS) ai i = (r : EReal) := fun i =>
    ⟨_, (at2 _ i (i 0) 0 rfl (by have : ∀ x : Fin 1, x.val = 0 := fun x => by omega
                                 exact this _)).trans (k_left10 b (i 0))⟩
  have hr : ∀ i, ∃ r : ℝ, k0_pay12 (F := Ideal) h W (attNb attV) i = (r : EReal) := fun i =>
    ⟨_, (at2 _ i 0 (i 1) (by have : ∀ x : Fin 1, x.val = 0 := fun x => by omega
                             exact this _) rfl).trans (k_right12 b (i 1))⟩
  show ∃ t : ℝ, k0_pay18 (F := Ideal) (k0_pay10 h W (attLast attS) ai) (k0_pay12 h W (attNb attV)) = (t : EReal)
  generalize k0_pay10 (F := Ideal) h W (attLast attS) ai = u at hl
  generalize k0_pay12 (F := Ideal) h W (attNb attV) = v at hr
  obtain ⟨p, hp⟩ := max_word (shapeCast S1x2048x1 u shapeCasts_S2048x1_S1x2048x1) reduces_S1x2048x1_S1 (ix3 (0 : Fin 1) (0 : Fin 2048) (0 : Fin 1))
    (fun i => hl _)
  obtain ⟨q, hq⟩ := max_word (shapeCast S1x1x2048 v shapeCasts_S1x2048_S1x1x2048) reduces_S1x1x2048_S1 (ix3 (0 : Fin 1) (0 : Fin 1) (0 : Fin 2048))
    (fun i => hr _)
  refine ⟨max (p + q) (slope * (p + q)), ?_⟩
  refine (congrArg₂ (fun a b : EReal => max (a + b) (Ideal.ofBits .f32 0x3DCCCCCD#32 * (a + b))) hp hq).trans ?_
  show max ((p : EReal) + q) (Ideal.ofBits .f32 0x3DCCCCCD#32 * ((p : EReal) + q)) = _
  rw [ofBits_slope, ← EReal.coe_add, ← EReal.coe_mul, max_coe]

end Cert.Proof.KI

end
-- ==== Proof.KVal.lean ====
/-
  What one grid point of the kernel stores, over the reals: eight blocks of columns make up the whole sums, because a skipped
  block holds no neighbour of the point's rows.
-/
module

public import proofs.«01_k».proof.Proof.KPro

@[expose] public section

set_option maxRecDepth 16384

noncomputable section

namespace Cert.Proof.KI

open Cert.KernelIdeal Cert.KernelIdeal.Gen Cert.Attn
open Idealize.ShloMosaic Idealize.ShloMosaic.ValueIdx Idealize.ShloMosaic.Routing

/-! ## Sums by blocks -/

/-- The sum of the first `b` of 2048 terms. -/
def part (g : Fin 2048 → ℝ) (b : ℕ) : ℝ := ∑ k ∈ Finset.range b, if h : k < 2048 then g ⟨k, h⟩ else 0

/-- No terms sum to zero. -/
theorem part_zero (g : Fin 2048 → ℝ) : part g 0 = 0 := Finset.sum_range_zero _

/-- All terms sum to the whole sum. -/
theorem part_all (g : Fin 2048 → ℝ) : part g 2048 = ∑ m, g m := by
  unfold part
  rw [Finset.sum_range]
  exact Finset.sum_congr rfl fun m _ => dif_pos m.isLt

/-- The next 256 terms. -/
theorem part_add (g : Fin 2048 → ℝ) (o : ℕ) (ho : o + 256 ≤ 2048) :
    part g (o + 256) = part g o + ∑ j : Fin 256, g ⟨o + j.val, by omega⟩ := by
  unfold part
  rw [Finset.sum_range_add, Finset.sum_range (n := 256)]
  refine congrArg (_ + ·) (Finset.sum_congr rfl fun j _ => dif_pos _)

/-! ## The words of the test -/

/-- The test is on exactly when the two ranges of ids overlap. -/
theorem mayMeet_iff (lo hi v12 v17 : BitVec 32) : mayMeet lo hi v12 v17 = 1#1 ↔ lo.toInt ≤ v17.toInt ∧ v12.toInt ≤ hi.toInt := by
  have e : mayMeet lo hi v12 v17 = IntOp.cmpi .ne (BitVec.setWidth 32 (IntOp.andi (IntOp.cmpi .sle lo v17) (IntOp.cmpi .sge hi v12))) 0#32 := rfl
  rw [e, WordCmp.cmpi_sle_eq, WordCmp.cmpi_sge_eq, WordCmp.andi_ofBool]
  by_cases h1 : lo.toInt ≤ v17.toInt
  · by_cases h2 : v12.toInt ≤ hi.toInt
    · rw [decide_eq_true h1, decide_eq_true h2]
      exact ⟨fun _ => ⟨h1, h2⟩, fun _ => by decide⟩
    · rw [decide_eq_true h1, decide_eq_false h2]
      exact ⟨fun q => absurd q (by decide), fun q => absurd q.2 h2⟩
  · rw [decide_eq_false h1, Bool.false_and]
    exact ⟨fun q => absurd q (by decide), fun q => absurd q.1 h1⟩

/-- One word of the table of ids. -/
theorem word_apply (x : Vec Ideal S2048 .i32) (o : ℕ) (ho : ∀ a, (![o] : Fin 1 → Nat) a + S1.size a ≤ S2048.size a) (hb : o < 2048) :
    word (F := Ideal) x o ho = x (ix1 ⟨o, hb⟩) := by
  have z : ∀ x : Fin 1, x.val = 0 := fun x => by omega
  refine at1 x _ ⟨o, hb⟩ ?_
  exact (congrArg (o + 1 * ·) (z _) : o + 1 * _ = o + 1 * 0)

/-- The first of a grid point's rows, as its word. -/
theorem first_row : ∀ t : Fin 8, (BitVec.ofNat 32 t.val * 256#32).toNat = 256 * t.val := by decide

/-- The last of a grid point's rows, as its word. -/
theorem last_row : ∀ t : Fin 8, (BitVec.ofNat 32 t.val * 256#32 + 256#32 - 1#32).toNat = 256 * t.val + 255 := by decide

/-- Row `r` of grid point `i`, as a node. -/
def node (i : grid0.Coords) (r : Fin 256) : Fin 2048 :=
  ⟨256 * (i 0).val + r.val, by have h0 : (i 0).val < 8 := (i 0).isLt; omega⟩

/-- A column of 2048 entries loaded at a grid point's rows. -/
theorem rows_apply {e : EltTy} (x : Vec Ideal S2048x1 e) (i : grid0.Coords) (off : Fin 2 → Nat) (h0 : off 0 = 256 * (i 0).val) (h1 : off 1 = 0)
    (inb : ∀ a, off a + S256x1.size a ≤ S2048x1.size a) (r : Fin 256) :
    View.ld x (Rect.unit (s := S2048x1) off S256x1.size inb) (ix2 r (0 : Fin 1)) = x (ix2 (node i r) (0 : Fin 1)) := by
  refine at2 x _ (node i r) 0 ?_ ?_
  · show off 0 + 1 * r.val = 256 * (i 0).val + r.val
    rw [h0, Nat.one_mul]
  · show off 1 + 1 * 0 = 0
    rw [h1]

/-- The row words of a grid point. -/
theorem rowLo_apply (x : Vec Ideal S2048 .i32) (i : grid0.Coords) : rowLo (F := Ideal) x i = x (ix1 (node i 0)) := by
  have z : ∀ x : Fin 1, x.val = 0 := fun x => by omega
  refine at1 x _ (node i 0) ?_
  show k0_off2 i 0 + 1 * _ = 256 * (i 0).val + 0
  have h : k0_off2 i 0 = 256 * (i 0).val := first_row ⟨(i 0).val, (i 0).isLt⟩
  rw [h]
  exact congrArg (256 * (i 0).val + 1 * ·) (z _)

/-- And the last. -/
theorem rowHi_apply (x : Vec Ideal S2048 .i32) (i : grid0.Coords) : rowHi (F := Ideal) x i = x (ix1 (node i 255)) := by
  have z : ∀ x : Fin 1, x.val = 0 := fun x => by omega
  refine at1 x _ (node i 255) ?_
  show k0_off3 i 0 + 1 * _ = 256 * (i 0).val + 255
  have h : k0_off3 i 0 = 256 * (i 0).val + 255 := last_row ⟨(i 0).val, (i 0).isLt⟩
  rw [h]
  exact congrArg (256 * (i 0).val + 255 + 1 * ·) (z _)

/-! ## One block of columns -/

/-- A column spread over a block reads its row. -/
theorem spread_column {α : Type} {K : ℕ} (x : (shape2 256 1).Idx → α) (hb : (shape2 256 1).Broadcasts (shape2 256 K)) (r : Fin 256) (j : Fin K) :
    broadcastTo (shape2 256 K) x hb (ix2 r j) = x (ix2 r (0 : Fin 1)) :=
  broadcastTo_apply x hb _ _ fun a => by
    match a with
    | ⟨0, _⟩ => exact (if_neg (show ¬(256 : ℕ) = 1 by decide)).symm
    | ⟨1, _⟩ => exact (if_pos (show (1 : ℕ) = 1 from rfl)).symm

/-- A row spread over a block reads its column. -/
theorem spread_row {α : Type} (x : (shape2 1 256).Idx → α) (hb : (shape2 1 256).Broadcasts (shape2 256 256)) (r : Fin 256) (j : Fin 256) :
    broadcastTo (shape2 256 256) x hb (ix2 r j) = x (ix2 (0 : Fin 1) j) :=
  broadcastTo_apply x hb _ _ fun a => by
    match a with
    | ⟨0, _⟩ => exact (if_pos (show (1 : ℕ) = 1 from rfl)).symm
    | ⟨1, _⟩ => exact (if_neg (show ¬(256 : ℕ) = 1 by decide)).symm

section Block

variable {tab : Vec Ideal S2048 .i32} {idc : Vec Ideal S1x2048 .i32} {whb : Vec Ideal S2048x512 .bf16} {fj : Vec Ideal S1x2048 .f32}
  {v3 : Elt Ideal .f32} {v6 : Vec Ideal S256x1 .f32} {v9 : Vec Ideal S256x1 .i32} {v12 v17 : Elt Ideal .i32}
  {H : Fin 2048 → Fin 512 → ℝ} {Wt : Fin 512 → Fin 512 → ℝ} {A : Fin 1025 → ℝ} {id : Fin 2048 → BitVec 32} {i : grid0.Coords} {t : ℝ}

/-- What the steps over the blocks of a grid point read, over the reals. -/
structure GridReads (tab : Vec Ideal S2048 .i32) (idc : Vec Ideal S1x2048 .i32) (whb : Vec Ideal S2048x512 .bf16) (fj : Vec Ideal S1x2048 .f32)
    (v3 : Elt Ideal .f32) (v6 : Vec Ideal S256x1 .f32) (v9 : Vec Ideal S256x1 .i32) (v12 v17 : Elt Ideal .i32)
    (H : Fin 2048 → Fin 512 → ℝ) (Wt : Fin 512 → Fin 512 → ℝ) (A : Fin 1025 → ℝ) (id : Fin 2048 → BitVec 32) (i : grid0.Coords) (t : ℝ) : Prop where
  sorted : Sorted id
  tab : ∀ n : Fin 2048, tab (ix1 n) = id n
  idc : ∀ n : Fin 2048, idc (ix2 (0 : Fin 1) n) = id n
  whb : ∀ (n : Fin 2048) (f : Fin 512), whb (ix2 n f) = ((wh H Wt n f : ℝ) : EReal)
  fj : ∀ n : Fin 2048, fj (ix2 (0 : Fin 1) n) = ((right H Wt A n : ℝ) : EReal)
  top : v3 = (t : EReal)
  fi : ∀ r : Fin 256, v6 (ix2 r (0 : Fin 1)) = ((left H Wt A (node i r) + A ⟨1024, by omega⟩ : ℝ) : EReal)
  ids : ∀ r : Fin 256, v9 (ix2 r (0 : Fin 1)) = id (node i r)
  lo : v12 = id (node i 0)
  hi : v17 = id (node i 255)

variable (b : GridReads tab idc whb fj v3 v6 v9 v12 v17 H Wt A id i t)
include b

/-- The weight of a row and a column of a block. -/
theorem block_weight (o : ℕ) (hr : ∀ a, (![0, o] : Fin 2 → Nat) a + S1x256.size a ≤ S1x2048.size a) (r : Fin 256) (j : Fin 256)
    (hm : o + j.val < 2048) :
    k0_pay1 (F := Ideal) v3 v6 v9 (View.ld fj (rRow o hr)) (View.ld idc (rRow o hr)) (ix2 r j)
      = ((weight H Wt A id t (node i r) ⟨o + j.val, hm⟩ : ℝ) : EReal) := by
  have ef : View.ld fj (rRow o hr) (ix2 (0 : Fin 1) j) = ((right H Wt A ⟨o + j.val, hm⟩ : ℝ) : EReal) :=
    (at2 fj _ 0 ⟨o + j.val, hm⟩ rfl (by show o + 1 * j.val = o + j.val; omega)).trans (b.fj _)
  have ei : View.ld idc (rRow o hr) (ix2 (0 : Fin 1) j) = id ⟨o + j.val, hm⟩ :=
    (at2 idc _ 0 ⟨o + j.val, hm⟩ rfl (by show o + 1 * j.val = o + j.val; omega)).trans (b.idc _)
  generalize View.ld fj (rRow o hr) = X at ef
  generalize View.ld idc (rRow o hr) = Y at ei
  generalize (⟨o + j.val, hm⟩ : Fin 2048) = m at ef ei
  have e1 := (spread_column v6 broadcasts_S256x1_S256x256 r j).trans (b.fi r)
  have e2 := (spread_row X broadcasts_S1x256_S256x256 r j).trans ef
  have e3 := (spread_column v9 broadcasts_S256x1_S256x256 r j).trans (b.ids r)
  have e4 : broadcastTo S256x256 (shapeCast S1x256 Y shapeCasts_S1x256_S1x256) broadcasts_S1x256_S256x256 (ix2 r j) = id m := by
    have e0 : shapeCast S1x256 (Y : S1x256.Idx → BitVec 32) shapeCasts_S1x256_S1x256 = Y := shapeCast_self _ _
    refine (spread_row (shapeCast S1x256 (Y : S1x256.Idx → BitVec 32) shapeCasts_S1x256_S1x256) broadcasts_S1x256_S256x256 r j).trans ?_
    exact (congrFun e0 _).trans ei
  show Scalar.select (IntOp.cmpi .eq (broadcastTo S256x256 v9 broadcasts_S256x1_S256x256 (ix2 r j))
      (broadcastTo S256x256 (shapeCast S1x256 Y shapeCasts_S1x256_S1x256) broadcasts_S1x256_S256x256 (ix2 r j)))
    (Ideal.exp (max ((broadcastTo S256x256 v6 broadcasts_S256x1_S256x256 (ix2 r j) : EReal) + broadcastTo S256x256 X broadcasts_S1x256_S256x256 (ix2 r j))
      (Ideal.ofBits .f32 0x3DCCCCCD#32 * ((broadcastTo S256x256 v6 broadcasts_S256x1_S256x256 (ix2 r j) : EReal) + broadcastTo S256x256 X broadcasts_S1x256_S256x256 (ix2 r j))) - v3))
    (Ideal.ofBits .f32 0#32) = _
  rw [e1, e2, e3, e4, b.top, select_eq, Ideal.ofBits_zero_f32, ofBits_slope, ← EReal.coe_add, ← EReal.coe_mul, max_coe, ← EReal.coe_sub, exp_coe]
  unfold weight score leaky
  rw [show left H Wt A (node i r) + A ⟨1024, by omega⟩ + right H Wt A m = left H Wt A (node i r) + right H Wt A m + A ⟨1024, by omega⟩ by ring]
  split
  · rfl
  · rfl

/-- A skipped block holds no weight. -/
theorem block_skipped (o : ℕ) (hl : ∀ a, (![o] : Fin 1 → Nat) a + S1.size a ≤ S2048.size a)
    (hh : ∀ a, (![o + 255] : Fin 1 → Nat) a + S1.size a ≤ S2048.size a) (ho : o + 256 ≤ 2048)
    (hv : ¬mayMeet (word (F := Ideal) tab o hl) (word (F := Ideal) tab (o + 255) hh) v12 v17 = 1#1) (r : Fin 256) (j : Fin 256) :
    weight H Wt A id t (node i r) ⟨o + j.val, by omega⟩ = 0 := by
  refine if_neg fun e => hv ((mayMeet_iff _ _ _ _).2 ?_)
  rw [word_apply tab o hl (by omega), word_apply tab (o + 255) hh (by omega), b.tab, b.tab, b.lo, b.hi]
  refine overlap b.sorted (n := node i r) (m := ⟨o + j.val, by omega⟩) ?_ ?_ ?_ ?_ e
  · show 256 * (i 0).val + 0 ≤ 256 * (i 0).val + r.val; omega
  · show 256 * (i 0).val + r.val ≤ 256 * (i 0).val + 255; omega
  · show o ≤ o + j.val; omega
  · show o + j.val ≤ o + 255; omega

/-- One block takes the accumulator from the first `o` columns to the first `o + 256`. -/
theorem acc_step (o : ℕ) (hl : ∀ a, (![o] : Fin 1 → Nat) a + S1.size a ≤ S2048.size a)
    (hh : ∀ a, (![o + 255] : Fin 1 → Nat) a + S1.size a ≤ S2048.size a)
    (hr : ∀ a, (![0, o] : Fin 2 → Nat) a + S1x256.size a ≤ S1x2048.size a)
    (hf : ∀ a, (![o, 0] : Fin 2 → Nat) a + S256x512.size a ≤ S2048x512.size a) (ho : o + 256 ≤ 2048) (acc : Vec Ideal S256x512 .f32)
    (hacc : ∀ r f, acc (ix2 r f) = ((part (fun m => weight H Wt A id t (node i r) m * wh H Wt m f) o : ℝ) : EReal)) (r : Fin 256) (f : Fin 512) :
    accAt (F := Ideal) tab idc whb fj v3 v6 v9 v12 v17 o hl hh hr hf acc (ix2 r f)
      = ((part (fun m => weight H Wt A id t (node i r) m * wh H Wt m f) (o + 256) : ℝ) : EReal) := by
  rw [part_add _ o ho]
  show accStep (F := Ideal) o hr hf idc whb fj v3 v6 v9 (mayMeet (word (F := Ideal) tab o hl) (word (F := Ideal) tab (o + 255) hh) v12 v17) acc (ix2 r f) = _
  unfold accStep
  by_cases hv : mayMeet (word (F := Ideal) tab o hl) (word (F := Ideal) tab (o + 255) hh) v12 v17 = 1#1
  · rw [if_pos hv]
    unfold k0_pay2
    rw [shapeCast_self]
    show acc (ix2 r f) + FloatOps.matmul (F := Ideal) (DotDims.plain 256 256 512) none (φ₁ := .bf16) (φ₂ := .bf16)
      (k0_pay1 v3 v6 v9 (View.ld fj (rRow o hr)) (View.ld idc (rRow o hr))) (View.ld whb (rFeat o hf)) (constant S256x512 .f32 0#32) (ix2 r f) = _
    rw [Ideal.matmul_plain_apply, hacc, EReal.coe_add]
    refine congrArg (_ + ·) ?_
    show Ideal.ofBits .f32 0#32 + _ = _
    rw [Ideal.ofBits_zero_f32, zero_add]
    refine sum_mul _ _ (fun j : Fin 256 => weight H Wt A id t (node i r) ⟨o + j.val, by omega⟩) (fun j : Fin 256 => wh H Wt ⟨o + j.val, by omega⟩ f)
      (fun j => block_weight b o hr r j _) (fun j => ?_)
    refine (at2 whb _ ⟨o + j.val, by omega⟩ f ?_ ?_).trans (b.whb _ _)
    · show o + 1 * j.val = o + j.val; omega
    · show 0 + 1 * f.val = f.val; omega
  · rw [if_neg hv, hacc]
    refine congrArg _ ?_
    rw [Finset.sum_eq_zero fun j _ => ?_, add_zero]
    rw [block_skipped b o hl hh ho hv r j, zero_mul]

/-- One block takes the sums of weights from the first `o` columns to the first `o + 256`. -/
theorem sum_step (o : ℕ) (hl : ∀ a, (![o] : Fin 1 → Nat) a + S1.size a ≤ S2048.size a)
    (hh : ∀ a, (![o + 255] : Fin 1 → Nat) a + S1.size a ≤ S2048.size a)
    (hr : ∀ a, (![0, o] : Fin 2 → Nat) a + S1x256.size a ≤ S1x2048.size a) (ho : o + 256 ≤ 2048) (s : Vec Ideal S256x1 .f32)
    (hs : ∀ r, s (ix2 r (0 : Fin 1)) = ((part (fun m => weight H Wt A id t (node i r) m) o : ℝ) : EReal)) (r : Fin 256) :
    sumAt (F := Ideal) tab idc whb fj v3 v6 v9 v12 v17 o hl hh hr s (ix2 r (0 : Fin 1))
      = ((part (fun m => weight H Wt A id t (node i r) m) (o + 256) : ℝ) : EReal) := by
  rw [part_add _ o ho]
  show sumStep (F := Ideal) o hr idc fj v3 v6 v9 (mayMeet (word (F := Ideal) tab o hl) (word (F := Ideal) tab (o + 255) hh) v12 v17) s (ix2 r (0 : Fin 1)) = _
  unfold sumStep
  by_cases hv : mayMeet (word (F := Ideal) tab o hl) (word (F := Ideal) tab (o + 255) hh) v12 v17 = 1#1
  · rw [if_pos hv]
    unfold k0_pay3
    rw [shapeCast_self]
    show s (ix2 r (0 : Fin 1)) + shapeCast S256x1 (multiReduction (F := Ideal) .add [1] S256
      (k0_pay1 v3 v6 v9 (View.ld fj (rRow o hr)) (View.ld idc (rRow o hr))) 0x00000000#32 reduces_S256x256_S256 (.inl rfl) rfl)
      shapeCasts_S256_S256x1 (ix2 r (0 : Fin 1)) = _
    rw [hs, EReal.coe_add]
    refine congrArg (_ + ·) ?_
    refine (shapeCast_apply _ shapeCasts_S256_S256x1 _ (ix1 r) ?_).trans ?_
    · rw [Shape.rowMajor_val_one, Shape.rowMajor_val_two]
      show r.val = r.val * 1 + 0
      omega
    · refine (Ideal.multiReduction_add_single _ _ reduces_S256x256_S256 (.inl rfl) rfl (ix1 r)).trans ?_
      rw [coe_sum]
      refine Finset.sum_congr rfl fun j _ => ?_
      exact (at2 (a := 256) (b := 256) _ _ r j rfl rfl).trans (block_weight b o hr r j _)
  · rw [if_neg hv, hs]
    refine congrArg _ ?_
    rw [Finset.sum_eq_zero fun j _ => block_skipped b o hl hh ho hv r j, add_zero]

/-- The accumulator after all eight blocks. -/
theorem acc_all (r : Fin 256) (f : Fin 512) :
    acc8 (F := Ideal) tab idc whb fj v3 v6 v9 v12 v17 (acc6 tab idc whb fj v3 v6 v9 v12 v17 (acc1 tab idc whb fj v3 v6 v9 v12 v17)) (ix2 r f)
      = ((∑ m, weight H Wt A id t (node i r) m * wh H Wt m f : ℝ) : EReal) := by
  have s0 : ∀ (r : Fin 256) (f : Fin 512), k0_pay19 (F := Ideal) (ix2 r f)
      = ((part (fun m => weight H Wt A id t (node i r) m * wh H Wt m f) 0 : ℝ) : EReal) := fun r f => by
    rw [part_zero]
    unfold k0_pay19
    rw [shapeCast_self]
    exact Ideal.ofBits_zero_f32
  have s1 := acc_step b 0 inb_S2048_S1_0 inb_S2048_S1_255 inb_S1x2048_S1x256_0_0 inb_S2048x512_S256x512_0_0 (by omega) _ s0
  have s2 := acc_step b 256 inb_S2048_S1_256 inb_S2048_S1_511 inb_S1x2048_S1x256_0_256 inb_S2048x512_S256x512_256_0 (by omega) _ s1
  have s3 := acc_step b 512 inb_S2048_S1_512 inb_S2048_S1_767 inb_S1x2048_S1x256_0_512 inb_S2048x512_S256x512_512_0 (by omega) _ s2
  have s4 := acc_step b 768 inb_S2048_S1_768 inb_S2048_S1_1023 inb_S1x2048_S1x256_0_768 inb_S2048x512_S256x512_768_0 (by omega) _ s3
  have s5 := acc_step b 1024 inb_S2048_S1_1024 inb_S2048_S1_1279 inb_S1x2048_S1x256_0_1024 inb_S2048x512_S256x512_1024_0 (by omega) _ s4
  have s6 := acc_step b 1280 inb_S2048_S1_1280 inb_S2048_S1_1535 inb_S1x2048_S1x256_0_1280 inb_S2048x512_S256x512_1280_0 (by omega) _ s5
  have s7 := acc_step b 1536 inb_S2048_S1_1536 inb_S2048_S1_1791 inb_S1x2048_S1x256_0_1536 inb_S2048x512_S256x512_1536_0 (by omega) _ s6
  have s8 := acc_step b 1792 inb_S2048_S1_1792 inb_S2048_S1_2047 inb_S1x2048_S1x256_0_1792 inb_S2048x512_S256x512_1792_0 (by omega) _ s7
  rw [← part_all]
  exact s8 r f

/-- The sums of weights after all eight blocks. -/
theorem sum_all (r : Fin 256) :
    sum8 (F := Ideal) tab idc whb fj v3 v6 v9 v12 v17 (sum6 tab idc whb fj v3 v6 v9 v12 v17 (sum1 tab idc whb fj v3 v6 v9 v12 v17)) (ix2 r (0 : Fin 1))
      = ((total H Wt A id t (node i r) : ℝ) : EReal) := by
  have s0 : ∀ (r : Fin 256), k0_pay20 (F := Ideal) (ix2 r (0 : Fin 1))
      = ((part (fun m => weight H Wt A id t (node i r) m) 0 : ℝ) : EReal) := fun r => by
    rw [part_zero]
    unfold k0_pay20
    rw [shapeCast_self]
    exact Ideal.ofBits_zero_f32
  have s1 := sum_step b 0 inb_S2048_S1_0 inb_S2048_S1_255 inb_S1x2048_S1x256_0_0 (by omega) _ s0
  have s2 := sum_step b 256 inb_S2048_S1_256 inb_S2048_S1_511 inb_S1x2048_S1x256_0_256 (by omega) _ s1
  have s3 := sum_step b 512 inb_S2048_S1_512 inb_S2048_S1_767 inb_S1x2048_S1x256_0_512 (by omega) _ s2
  have s4 := sum_step b 768 inb_S2048_S1_768 inb_S2048_S1_1023 inb_S1x2048_S1x256_0_768 (by omega) _ s3
  have s5 := sum_step b 1024 inb_S2048_S1_1024 inb_S2048_S1_1279 inb_S1x2048_S1x256_0_1024 (by omega) _ s4
  have s6 := sum_step b 1280 inb_S2048_S1_1280 inb_S2048_S1_1535 inb_S1x2048_S1x256_0_1280 (by omega) _ s5
  have s7 := sum_step b 1536 inb_S2048_S1_1536 inb_S2048_S1_1791 inb_S1x2048_S1x256_0_1536 (by omega) _ s6
  have s8 := sum_step b 1792 inb_S2048_S1_1792 inb_S2048_S1_2047 inb_S1x2048_S1x256_0_1792 (by omega) _ s7
  unfold total
  rw [← part_all]
  exact s8 r

end Block

/-! ## The block a grid point stores -/

/-- The division at the end: the mean where the mark is off, zero where it is on. -/
theorem divide (al : Vec Ideal S256x1 .i32) (acc : Vec Ideal S256x512 .f32) (s : Vec Ideal S256x1 .f32) (r : Fin 256) (f : Fin 512) :
    k0_pay7 (F := Ideal) al acc s (ix2 r f)
      = if al (ix2 r (0 : Fin 1)) = 0#32 then Ideal.div (acc (ix2 r f)) (s (ix2 r (0 : Fin 1))) else 0 := by
  have e1 := spread_column s broadcasts_S256x1_S256x512 r f
  have e2 : broadcastTo S256x512 (shapeCast S256x1 (cmpi .eq al (broadcast S256x1 0#32)) shapeCasts_S256x1_S256x1) broadcasts_S256x1_S256x512 (ix2 r f)
      = IntOp.cmpi .eq (al (ix2 r (0 : Fin 1))) 0#32 := by
    rw [shapeCast_self]
    exact spread_column _ broadcasts_S256x1_S256x512 r f
  show Scalar.select (broadcastTo S256x512 (shapeCast S256x1 (cmpi .eq al (broadcast S256x1 0#32)) shapeCasts_S256x1_S256x1) broadcasts_S256x1_S256x512 (ix2 r f))
    (Ideal.div (acc (ix2 r f)) (broadcastTo S256x512 s broadcasts_S256x1_S256x512 (ix2 r f))) (Ideal.ofBits .f32 0#32) = _
  rw [e1, e2, select_eq, Ideal.ofBits_zero_f32]

/-- A grid point stores the layer's result at its rows. -/
theorem out_apply {tab : Vec Ideal S2048 .i32} {attS : Vec Ideal S1x1025 .f32} {h : Vec Ideal S2048x512 .f32} {W : Vec Ideal S512x512 .f32}
    {attV : Vec Ideal S1x1025 .f32} {ai : Vec Ideal S512x1 .f32} {idc : Vec Ideal S1x2048 .i32}
    {H : Fin 2048 → Fin 512 → ℝ} {Wt : Fin 512 → Fin 512 → ℝ} {A : Fin 1025 → ℝ} {id : Fin 2048 → BitVec 32}
    (b : Blocks tab attS h W attV ai idc H Wt A id) (hs : Sorted id) (i : grid0.Coords) (r : Fin 256) (f : Fin 512) :
    outV (F := Ideal) i tab idc (whV h W) (fiV attS h W ai) (fjV h W attV) (idV (F := Ideal) idc) (aloneV (F := Ideal) idc)
      (topV attS h W attV ai) (ix2 r f) = ((result H Wt A id (node i r) f : ℝ) : EReal) := by
  obtain ⟨t, ht⟩ := k_top b
  have o1 : k0_off1 i 0 = 256 * (i 0).val := first_row ⟨(i 0).val, (i 0).isLt⟩
  have o4 : k0_off4 i 0 = 256 * (i 0).val := first_row ⟨(i 0).val, (i 0).isLt⟩
  have b' : GridReads tab idc (whV h W) (fjV h W attV) (topS (topV attS h W attV ai)) (rowF (fiV attS h W ai) i) (rowI (F := Ideal) (idV (F := Ideal) idc) i)
      (rowLo (F := Ideal) tab i) (rowHi (F := Ideal) tab i) H Wt A id i t :=
    { sorted := hs
      tab := b.tab
      idc := b.idc
      whb := k_wh b
      fj := k_right b
      top := ht
      fi := fun r => (rows_apply _ i _ o1 rfl _ r).trans (k_left b _)
      ids := fun r => (rows_apply _ i _ o1 rfl _ r).trans (k_ids b _)
      lo := (rowLo_apply tab i).trans (b.tab _)
      hi := (rowHi_apply tab i).trans (b.tab _) }
  unfold outV
  have al : rowA (F := Ideal) (aloneV (F := Ideal) idc) i (ix2 r (0 : Fin 1)) = (open Classical in if lone id (node i r) then 1#32 else 0#32) :=
    (rows_apply _ i _ o4 rfl _ r).trans (k_alone b hs _)
  rw [divide, acc_all b', sum_all b', al, div_coe _ _ (total_pos H Wt A id t _).ne',
    mean_shift]
  unfold result
  by_cases hl : lone id (node i r)
  · rw [if_pos hl, if_pos hl, if_neg (by decide)]
    rfl
  · rw [if_neg hl, if_neg hl, if_pos rfl]

end Cert.Proof.KI

end
-- ==== Proof.Value.lean ====
/-
  The result array after the kernel's run, over the reals: the layer's result at every node and feature.
-/
module

public import proofs.«01_k».proof.Proof.KVal
public import Idealize.ShloMosaic.Lib.Pipeline.ValueKit

@[expose] public section

set_option maxRecDepth 16384

noncomputable section

namespace Cert.Proof.KI

open Cert.KernelIdeal Cert.KernelIdeal.Gen Cert.Attn
open Idealize.ShloMosaic Idealize.ShloMosaic.TcCoe Idealize.ShloMosaic.ValueIdx Idealize.ShloMosaic.Routing Idealize.SL Idealize.SL.Sem

variable (m : (ℓ : Loc nD τ sig) → Buf (Elt Ideal) ℓ) (ρ : Dev nD → PrngReg) (c : Dev nD)

/-! ## What the host prepares -/

/-- The ids as a row. -/
theorem host_ids : V m c main_v0 = shapeCast S1x2048 (m ((c.tc : Thread nD τ).loc main_arg1)) shapeCasts_S2048_S1x2048 := by
  show StableHlo.after hostOps0 _ (Proc.devRef .tc main_v0) = _
  after_results
  rfl

/-- The first 512 attention weights as a column. -/
theorem host_left : V m c main_v3 = shapeCast S512x1 (shapeCast S512 (extractStridedSlice S1x512 ![0, 0] (m ((c.tc : Thread nD τ).loc main_arg3)) slices_S1x1025_S1x512_0_0)
    shapeCasts_S1x512_S512) shapeCasts_S512_S512x1 := by
  show StableHlo.after hostOps0 _ (Proc.devRef .tc main_v3) = _
  after_results
  rfl

/-! ## The blocks of the input windows -/

variable {H : Fin 2048 → Fin 512 → ℝ} {Wt : Fin 512 → Fin 512 → ℝ} {A : Fin 1025 → ℝ} {id : Fin 2048 → BitVec 32}

/-- A block that is the whole array starts at 0. -/
theorem whole_axis (n : ℕ) : 0 + 1 * n = n := by omega

/-- The arguments as real numbers and words make the windows' blocks so. -/
theorem blocks (h : Holds (m ((c.tc : Thread nD τ).loc main_arg0)) (m ((c.tc : Thread nD τ).loc main_arg1)) (m ((c.tc : Thread nD τ).loc main_arg2))
      (m ((c.tc : Thread nD τ).loc main_arg3)) H Wt A id) :
    Blocks (tabB m c) (attSB m c) (hB m c) (WB m c) (attVB m c) (aiB m c) (idcB m c) H Wt A id where
  tab n := (at1 (V m c main_arg1) _ n (whole_axis n.val)).trans ((congrFun (V_main_arg1 m c) _).trans (h.ids n))
  attS k := (at2 (V m c main_arg3) _ 0 k rfl (whole_axis k.val)).trans ((congrFun (V_main_arg3 m c) _).trans (h.att k))
  feat n k := (at2 (V m c main_arg0) _ n k (whole_axis n.val) (whole_axis k.val)).trans ((congrFun (V_main_arg0 m c) _).trans (h.feat n k))
  wt f k := (at2 (V m c main_arg2) _ f k (whole_axis f.val) (whole_axis k.val)).trans ((congrFun (V_main_arg2 m c) _).trans (h.wt f k))
  attV k := (at2 (V m c main_arg3) _ 0 k rfl (whole_axis k.val)).trans ((congrFun (V_main_arg3 m c) _).trans (h.att k))
  ai k := by
    refine (at2 (V m c main_v3) _ k 0 (whole_axis k.val) rfl).trans ((congrFun (host_left m c) _).trans ?_)
    refine (shapeCast_apply _ shapeCasts_S512_S512x1 _ (ValueIdx.ix1 k) ?_).trans ?_
    · rw [Shape.rowMajor_val_one, Shape.rowMajor_val_two]
      show k.val = k.val * 1 + 0
      omega
    refine (shapeCast_apply _ shapeCasts_S1x512_S512 _ (ValueIdx.ix2 (0 : Fin 1) k) ?_).trans ?_
    · rw [Shape.rowMajor_val_one, Shape.rowMajor_val_two]
      show 0 * 512 + k.val = k.val
      omega
    exact (at2 (m ((c.tc : Thread nD τ).loc main_arg3)) _ 0 ⟨k.val, by omega⟩ rfl (Nat.zero_add _)).trans (h.att _)
  idc n := by
    refine (at2 (V m c main_v0) _ 0 n rfl (whole_axis n.val)).trans ((congrFun (host_ids m c) _).trans ?_)
    refine (shapeCast_apply _ shapeCasts_S2048_S1x2048 _ (ValueIdx.ix1 n) ?_).trans (h.ids n)
    rw [Shape.rowMajor_val_one, Shape.rowMajor_val_two]
    show n.val = 0 * 2048 + n.val
    omega

/-! ## The result array -/

/-- The result array, over the reals. -/
def resultArr (H : Fin 2048 → Fin 512 → ℝ) (Wt : Fin 512 → Fin 512 → ℝ) (A : Fin 1025 → ℝ) (id : Fin 2048 → BitVec 32) : Vec Ideal S2048x512 .f32 :=
  fun i => ((result H Wt A id (i 0) (i 1) : ℝ) : EReal)

theorem index7 : ∀ t : Fin cfg0.N, win0_7.index t = ![(grid0.coords t 0).val, 0] := (by decide +kernel : ∀ t : Fin grid0.N, _)

/-- The eight stored blocks make up the result. -/
theorem stored (h : Holds (m ((c.tc : Thread nD τ).loc main_arg0)) (m ((c.tc : Thread nD τ).loc main_arg1)) (m ((c.tc : Thread nD τ).loc main_arg2))
      (m ((c.tc : Thread nD τ).loc main_arg3)) H Wt A id) (hs : Sorted id) :
    (dats m 0 c).arrAt 7 cfg0.N = resultArr H Wt A id := by
  refine (dats m 0 c).arrAt_eq_of_covers 7 _ (by decide +kernel) fun t hf y => ?_
  have e : (dats m 0 c).after 7 t = outB m c t := rfl
  have q := out_apply (blocks m c h) hs (grid0.coords t) (y 0) (y 1)
  have k0 : (win0_7.blk t).view.emb y 0 = node (grid0.coords t) (y 0) := by
    refine Fin.ext ?_
    blk_simp [index7]
    show (grid0.coords t 0).val * 256 + (y 0).val = 256 * (grid0.coords t 0).val + (y 0).val
    omega
  have k1 : (win0_7.blk t).view.emb y 1 = y 1 := by
    refine Fin.ext ?_
    blk_simp [index7]
  blk_simp
  rw [e]
  refine (at2 (outB m c t) y (y 0) (y 1) rfl rfl).trans (q.trans ?_)
  show _ = ((result H Wt A id ((win0_7.blk t).view.emb y 0) ((win0_7.blk t).view.emb y 1) : ℝ) : EReal)
  rw [k0, k1]

/-- Every run ends with the result array at the layer's result and the arguments as they were. -/
theorem run_value (H : Dev nD → Fin 2048 → Fin 512 → ℝ) (Wt : Dev nD → Fin 512 → Fin 512 → ℝ) (A : Dev nD → Fin 1025 → ℝ)
    (id : Dev nD → Fin 2048 → BitVec 32) (hargs : ∀ c : Dev nD, Holds (m ((c.tc : Thread nD τ).loc main_arg0)) (m ((c.tc : Thread nD τ).loc main_arg1))
      (m ((c.tc : Thread nD τ).loc main_arg2)) (m ((c.tc : Thread nD τ).loc main_arg3)) (H c) (Wt c) (A c) (id c)) (hs : ∀ c, Sorted (id c)) :
    θ_run defs (onTc (τ := τ) (main (F := Ideal))) ⟨m, fun _ => 0, ρ⟩ (fun r => ∀ c : Dev nD,
      r.2.mem ((c.tc : Thread nD τ).loc main_v4) = resultArr (H c) (Wt c) (A c) (id c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ q c => ⟨((q.1 c).1 7).trans (stored m c (hargs c) (hs c)),
    ((q.1 c).1 2).trans (((dats m 0 c).arrAt_in 2 rfl _).trans (V_main_arg0 m c)),
    ((q.1 c).1 0).trans (((dats m 0 c).arrAt_in 0 rfl _).trans (V_main_arg1 m c)),
    ((q.1 c).1 3).trans (((dats m 0 c).arrAt_in 3 rfl _).trans (V_main_arg2 m c)),
    ((q.1 c).1 4).trans (((dats m 0 c).arrAt_in 4 rfl _).trans (V_main_arg3 m c))⟩) (run_main m ρ)

end Cert.Proof.KI

end
-- ==== Proof.Pre.lean ====
/-
  What the precondition says of the arguments: every float is a real number, and the segment ids are words below 8 in
  ascending order.
-/
module

public import proofs.«01_k».proof.Pre_ordered_finite
public import proofs.«01_k».proof.Proof.RVal

@[expose] public section

set_option maxRecDepth 16384

noncomputable section

namespace Cert.Pre_ordered_finite

open Idealize.ShloMosaic Idealize.ShloMosaic.ValueIdx Idealize.ShloMosaic.Routing Cert.Attn

/-- The side conditions of the predicate's operations. -/
instance facts : Facts where
  bcast_S_S2048x512 := by decide
  bcast_S_S512x512 := by decide
  bcast_S_S1x1025 := by decide
  bcast_S_S2048 := by decide
  slices_S2048_S2047_0 := by decide
  slices_S2048_S2047_1 := by decide

/-- A number whose absolute value is below infinity is the real number it reads as. -/
theorem real_of_finite (x : EReal) (h : Ideal.cmp .olt (max x (-x)) (Ideal.ofBits .f32 0x7F800000#32) = 1#1) : x = ((x.toReal : ℝ) : EReal) := by
  rw [ofBits_top] at h
  have h' : BitVec.ofBool (decide (max x (-x) < ⊤)) = 1#1 := h
  rw [WordCmp.ofBool_decide_eq_one_iff] at h'
  refine (EReal.coe_toReal ?_ ?_).symm
  · rintro rfl
    simp at h'
  · rintro rfl
    simp at h'

/-- A word at least 0 and below 8, read signed, is below 8. -/
theorem small_of_range (x : BitVec 32) (h : IntOp.andi (IntOp.cmpi .sge x 0#32) (IntOp.cmpi .slt x 8#32) = 1#1) : x.toNat < 8 := by
  rw [WordCmp.cmpi_sge_eq, WordCmp.cmpi_slt_eq, WordCmp.andi_ofBool, WordCmp.ofBool_eq_one_iff, Bool.and_eq_true, decide_eq_true_iff, decide_eq_true_iff] at h
  have e0 : (0#32 : BitVec 32).toInt = 0 := by decide
  have e8 : (8#32 : BitVec 32).toInt = 8 := by decide
  rw [e0, e8, BitVec.toInt_eq_toNat_cond] at h
  have := x.isLt
  split at h <;> omega

variable {x0 : FVec Ideal S2048x512 .f32} {x1 : IVec S2048 32} {x2 : FVec Ideal S512x512 .f32} {x3 : FVec Ideal S1x1025 .f32}

/-- The arguments under the precondition, as real numbers and words. -/
theorem holds (h0 : (fn (F := Ideal) x0 x1 x2 x3).1 = fun _ => 1#1) (h2 : (fn (F := Ideal) x0 x1 x2 x3).2.1 = fun _ => 1#1)
    (h3 : (fn (F := Ideal) x0 x1 x2 x3).2.2.1 = fun _ => 1#1) :
    Holds x0 x1 x2 x3 (fun n k => (x0 (ix2 n k) : EReal).toReal) (fun f k => (x2 (ix2 f k) : EReal).toReal)
      (fun k => (x3 (ix2 (0 : Fin 1) k) : EReal).toReal) (fun n => x1 (ix1 n)) where
  feat n k := real_of_finite _ (congrFun h0 (ix2 n k))
  ids _ := rfl
  wt f k := real_of_finite _ (congrFun h2 (ix2 f k))
  att k := real_of_finite _ (congrFun h3 (ix2 (0 : Fin 1) k))

/-- The ids under the precondition ascend. -/
theorem sorted (h1 : (fn (F := Ideal) x0 x1 x2 x3).2.2.2.1 = fun _ => 1#1) (h4 : (fn (F := Ideal) x0 x1 x2 x3).2.2.2.2 = fun _ => 1#1) :
    Sorted fun n => x1 (ix1 n) := by
  have range : ∀ n : Fin 2048, (x1 (ix1 n)).toNat < 8 := fun n => small_of_range _ (congrFun h1 (ix1 n))
  refine sorted_of_steps _ range fun n h => ?_
  have e : IntOp.cmpi .sle (extractStridedSlice S2047 ![0] x1 Facts.slices_S2048_S2047_0 (ix1 (⟨n, by omega⟩ : Fin 2047)))
      (extractStridedSlice S2047 ![1] x1 Facts.slices_S2048_S2047_1 (ix1 (⟨n, by omega⟩ : Fin 2047))) = 1#1 := congrFun h4 (ix1 (⟨n, by omega⟩ : Fin 2047))
  have a : extractStridedSlice S2047 ![0] x1 Facts.slices_S2048_S2047_0 (ix1 (⟨n, by omega⟩ : Fin 2047)) = x1 (ix1 ⟨n, by omega⟩) :=
    at1 x1 _ ⟨n, by omega⟩ (Nat.zero_add n)
  have b : extractStridedSlice S2047 ![1] x1 Facts.slices_S2048_S2047_1 (ix1 (⟨n, by omega⟩ : Fin 2047)) = x1 (ix1 ⟨n + 1, h⟩) :=
    at1 x1 _ ⟨n + 1, h⟩ (Nat.add_comm 1 n)
  rw [a, b, WordCmp.cmpi_sle_eq, WordCmp.ofBool_decide_eq_one_iff, BitVec.toInt_eq_toNat_of_lt (by have := range ⟨n, by omega⟩; omega),
    BitVec.toInt_eq_toNat_of_lt (by have := range ⟨n + 1, h⟩; omega)] at e
  exact Int.ofNat_le.mp e

end Cert.Pre_ordered_finite

end
-- ==== Proof.lean ====
/-
  The certificate's claims, assembled from the modules under Proof/.
-/
module

public import proofs.«01_k».proof.Defs
public import proofs.«01_k».proof.Proof.Frames
public import proofs.«01_k».proof.Proof.Value
public import proofs.«01_k».proof.Proof.Pre
public import proofs.«01_k».proof.Proof.Gen.ReferenceIdeal.Run
public import proofs.«01_k».proof.Proof.Gen.ReferenceIdeal.Read

@[expose] public section

noncomputable section

namespace Cert.Proof

open Idealize.ShloMosaic Idealize.ShloMosaic.TcCoe Idealize.SL.Sem Cert.Attn

/-- The frame of `Kernel`. -/
theorem frame_p : Cert.quiescent_Kernel := fun m g _ => frame_kernel m g

/-- The frame of `KernelIdeal`. -/
theorem frame_pi : Cert.quiescent_KernelIdeal := fun m g _ => KI.frame m g

/-- The frame of `KernelIdeal` again, from the arguments of the precondition. -/
theorem frame_pi_pre : Cert.quiescent_KernelIdeal_pre_ordered_finite := fun m g _ => KI.frame m g

/-- The frame of `ReferenceIdeal`: its run leaves the arguments alone, and it has no semaphore. -/
theorem frame_ri : Cert.quiescent_ReferenceIdeal := by
  intro m g _
  exact (θ_run Cert.ReferenceIdeal.defs _ _).mono
    (fun r h => ⟨fun c => (h c).2, sem_eq_zero_of_no_sems (by decide) r.2⟩) (Cert.ReferenceIdeal.Value.run m g)

/-- The frame of `ReferenceIdeal` again, from the arguments of the precondition. -/
theorem frame_ri_pre : Cert.quiescent_ReferenceIdeal_pre_ordered_finite := fun m g _ => frame_ri m g trivial

/-- Over the reals the kernel and the reference compute the same array. -/
theorem algebraic : Cert.algebraic_KernelIdeal_ReferenceIdeal_pre_ordered_finite := by
  intro m g m' g' hpre hargs
  have hh := fun c => Cert.Pre_ordered_finite.holds (hpre c).1 (hpre c).2.1 (hpre c).2.2.1
  have hs := fun c => Cert.Pre_ordered_finite.sorted (hpre c).2.2.2.1 (hpre c).2.2.2.2
  refine ⟨_, KI.run_value m g _ _ _ _ hh hs, ?_⟩
  refine (θ_run Cert.ReferenceIdeal.defs _ _).mono (fun r h c => ⟨(h c).1.trans ?_, (h c).2⟩) (Cert.ReferenceIdeal.Value.run m' g')
  obtain ⟨a0, a1, a2, a3⟩ := hargs c
  rw [Cert.ReferenceIdeal.Read.val_main_v56_eq, a0, a1, a2, a3]
  funext i
  exact (at2 _ i (i 0) (i 1) rfl rfl).trans (Cert.ReferenceIdeal.Read.r_result (hh c) (hs c) (i 0) (i 1))

/-- The claims. -/
theorem claim : Cert.Claim := ⟨Cert.Kernel.Gen.facts, Cert.KernelIdeal.Gen.facts, Cert.ReferenceIdeal.Gen.facts, Cert.Pre_ordered_finite.facts,
  frame_p, frame_pi, frame_pi_pre, frame_ri, frame_ri_pre, trivial, algebraic⟩

end Cert.Proof

end
